-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_KernelIdeal [hPre_finite_queries_KernelIdeal : Cert.Pre_finite_queries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_ReferenceIdeal [hPre_finite_queries_ReferenceIdeal : Cert.Pre_finite_queries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_KernelIdeal [hKernelIdeal : Cert.KernelIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_ReferenceIdeal [hReferenceIdeal : Cert.ReferenceIdeal.Facts] [hPre_finite_queries_ReferenceIdeal : Cert.Pre_finite_queries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_KernelIdeal [hKernelIdeal : Cert.KernelIdeal.Facts] [hReferenceIdeal : Cert.ReferenceIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_KernelIdeal m →
    (∀ c : Dev Cert.KernelIdeal.nD,
      m ((c.tc : Thread Cert.KernelIdeal.nD Cert.KernelIdeal.τ).loc Cert.KernelIdeal.main_arg0) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨4, ![2, 512, 8, 64]⟩ ⟨4, ![2, 2048, 8, 64]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_KernelIdeal : Cert.Pre_finite_queries_KernelIdeal.Facts) (hPre_finite_queries_ReferenceIdeal : Cert.Pre_finite_queries_ReferenceIdeal.Facts),
    quiescent_Kernel (hKernel := hKernel)
    ∧ quiescent_KernelIdeal (hKernelIdeal := hKernelIdeal)
    ∧ quiescent_KernelIdeal_pre_finite_queries_KernelIdeal (hKernelIdeal := hKernelIdeal) (hPre_finite_queries_KernelIdeal := hPre_finite_queries_KernelIdeal)
    ∧ quiescent_ReferenceIdeal (hReferenceIdeal := hReferenceIdeal)
    ∧ quiescent_ReferenceIdeal_pre_finite_queries_ReferenceIdeal (hReferenceIdeal := hReferenceIdeal) (hPre_finite_queries_ReferenceIdeal := hPre_finite_queries_ReferenceIdeal)
    ∧ preserves_Kernel_KernelIdeal
    ∧ algebraic_KernelIdeal_ReferenceIdeal_pre_finite_queries_KernelIdeal (hKernelIdeal := hKernelIdeal) (hReferenceIdeal := hReferenceIdeal) (hPre_finite_queries_KernelIdeal := hPre_finite_queries_KernelIdeal)
-- ==== Pre_finite_queries_KernelIdeal.lean ====
abbrev S2x512x8x64 : Shape := ⟨4, ![2, 512, 8, 64]⟩
abbrev S_ : Shape := ⟨0, ![]⟩

class Facts : Prop where
  bitsLt_bf16_f32 : FTy.bits .bf16 < FTy.bits .f32
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 :=
  let main_v0 : FVec F S2x512x8x64 .f32 := (extf .f32 · bitsLt_bf16_f32) main_arg0
  let main_v1 : FVec F S2x512x8x64 .f32 := Host.absf main_v0
  let main_cst : FVec F S_ .f32 := constant S_ .f32 0x7F800000#32
  let main_v2 : FVec F S2x512x8x64 .f32 := broadcastInDim S2x512x8x64 ![] bcast_S_S2x512x8x64 main_cst
  let main_v3 : IVec S2x512x8x64 1 := cmpf .olt main_v1 main_v2
  main_v3
-- ==== Pre_finite_queries_ReferenceIdeal.lean ====
abbrev S2x2048x8x64 : Shape := ⟨4, ![2, 2048, 8, 64]⟩
abbrev S_ : Shape := ⟨0, ![]⟩

class Facts : Prop where
  bitsLt_bf16_f32 : FTy.bits .bf16 < FTy.bits .f32
  bcast_S_S2x2048x8x64 : S_.BroadcastsInDim S2x2048x8x64 (![] : Fin 0 → Fin S2x2048x8x64.rank)

variable [Facts]

def fn {F : FTy → Type} [FloatOps F] (main_arg0 : FVec F S2x2048x8x64 .bf16) (main_arg1 : FVec F S2x2048x8x64 .bf16) (main_arg2 : FVec F S2x2048x8x64 .bf16) : IVec S2x2048x8x64 1 :=
  let main_v0 : FVec F S2x2048x8x64 .f32 := (extf .f32 · bitsLt_bf16_f32) main_arg0
  let main_v1 : FVec F S2x2048x8x64 .f32 := Host.absf main_v0
  let main_cst : FVec F S_ .f32 := constant S_ .f32 0x7F800000#32
  let main_v2 : FVec F S2x2048x8x64 .f32 := broadcastInDim S2x2048x8x64 ![] bcast_S_S2x2048x8x64 main_cst
  let main_v3 : IVec S2x2048x8x64 1 := cmpf .olt main_v1 main_v2
  main_v3
-- ==== Kernel.lean ====
abbrev S2x512x8x64 : Shape := ⟨4, ![2, 512, 8, 64]⟩
abbrev S2x8x512x64 : Shape := ⟨4, ![2, 8, 512, 64]⟩
abbrev S_ : Shape := ⟨0, ![]⟩
abbrev S16x512x64 : Shape := ⟨3, ![16, 512, 64]⟩
abbrev S2x8x64x512 : Shape := ⟨4, ![2, 8, 64, 512]⟩
abbrev S16x64x512 : Shape := ⟨3, ![16, 64, 512]⟩
abbrev S4x2x2x8x64x512 : Shape := ⟨6, ![4, 2, 2, 8, 64, 512]⟩
abbrev S4x2x16x1x512 : Shape := ⟨5, ![4, 2, 16, 1, 512]⟩
abbrev S16x512x1 : Shape := ⟨3, ![16, 512, 1]⟩
abbrev S12 : Shape := ⟨1, ![12]⟩
abbrev S16x512 : Shape := ⟨2, ![16, 512]⟩
abbrev S16x1x512 : Shape := ⟨3, ![16, 1, 512]⟩
abbrev S8x64x512 : Shape := ⟨3, ![8, 64, 512]⟩
abbrev S1x1x1x8x64x512 : Shape := ⟨6, ![1, 1, 1, 8, 64, 512]⟩
abbrev S1x1x16x1x512 : Shape := ⟨5, ![1, 1, 16, 1, 512]⟩
abbrev S1 : Shape := ⟨1, ![1]⟩
abbrev S1x2x16x1x512 : Shape := ⟨5, ![1, 2, 16, 1, 512]⟩
abbrev S2x16x1x512 : Shape := ⟨4, ![2, 16, 1, 512]⟩
abbrev S1x1x2x8x64x512 : Shape := ⟨6, ![1, 1, 2, 8, 64, 512]⟩
abbrev S4x512x64 : Shape := ⟨3, ![4, 512, 64]⟩
abbrev S1x1x1x4x64x512 : Shape := ⟨6, ![1, 1, 1, 4, 64, 512]⟩
abbrev S4x64x512 : Shape := ⟨3, ![4, 64, 512]⟩
abbrev S4x512x512 : Shape := ⟨3, ![4, 512, 512]⟩
abbrev S1x1x4x1x512 : Shape := ⟨5, ![1, 1, 4, 1, 512]⟩
abbrev S4x1x512 : Shape := ⟨3, ![4, 1, 512]⟩
abbrev S4x512x1 : Shape := ⟨3, ![4, 512, 1]⟩
abbrev S4x512 : Shape := ⟨2, ![4, 512]⟩

abbrev nBuf : Space → Nat
  | .hbm => 15
  | .vmem => 8
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x8x512x64, .bf16⟩
  | .hbm, ⟨4, _⟩ => ⟨S_, .bf16⟩
  | .hbm, ⟨5, _⟩ => ⟨S2x8x512x64, .bf16⟩
  | .hbm, ⟨6, _⟩ => ⟨S2x8x512x64, .bf16⟩
  | .hbm, ⟨7, _⟩ => ⟨S16x512x64, .bf16⟩
  | .hbm, ⟨8, _⟩ => ⟨S2x8x64x512, .bf16⟩
  | .hbm, ⟨9, _⟩ => ⟨S16x64x512, .bf16⟩
  | .hbm, ⟨10, _⟩ => ⟨S2x8x64x512, .bf16⟩
  | .hbm, ⟨11, _⟩ => ⟨S16x64x512, .bf16⟩
  | .hbm, ⟨12, _⟩ => ⟨S16x512x64, .f32⟩
  | .hbm, ⟨13, _⟩ => ⟨S2x8x512x64, .f32⟩
  | .hbm, ⟨14, _⟩ => ⟨S2x512x8x64, .f32⟩
  | .local _ .vmem, ⟨0, _⟩ => ⟨S16x512x64, .bf16⟩
  | .local _ .vmem, ⟨1, _⟩ => ⟨S16x64x512, .bf16⟩
  | .local _ .vmem, ⟨2, _⟩ => ⟨S16x64x512, .bf16⟩
  | .local _ .vmem, ⟨3, _⟩ => ⟨S16x512x64, .f32⟩
  | .local _ .vmem, ⟨4, _⟩ => ⟨S4x2x2x8x64x512, .i8⟩
  | .local _ .vmem, ⟨5, _⟩ => ⟨S4x2x16x1x512, .f32⟩
  | .local _ .vmem, ⟨6, _⟩ => ⟨S16x512x64, .f32⟩
  | .local _ .vmem, ⟨7, _⟩ => ⟨S16x512x1, .f32⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_59 : BitVec 32 := 1#32
  let v71 : BitVec 32 := Scalar.muli v5 c1_i32_59
  let v72 : BitVec 32 := Scalar.addi c0_i32 v71
  v72.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_61 : BitVec 32 := 1#32
  let v73 : BitVec 32 := Scalar.muli v7 c1_i32_61
  let v74 : BitVec 32 := Scalar.addi c0_i32_62 v73
  v74.toNat
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_66 : BitVec 32 := 1#32
  let v75 : BitVec 32 := Scalar.muli v7 c1_i32_66
  let v76 : BitVec 32 := Scalar.addi c0_i32_67 v75
  v76.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_79 : BitVec 32 := 1#32
  let v85 : BitVec 32 := Scalar.muli v5 c1_i32_79
  let v86 : BitVec 32 := Scalar.addi c0_i32_80 v85
  v86.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_95 : BitVec 32 := 1#32
  let v95 : BitVec 32 := Scalar.muli v7 c1_i32_95
  let v96 : BitVec 32 := Scalar.addi c0_i32_96 v95
  v96.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_111 : BitVec 32 := 1#32
  let v105 : BitVec 32 := Scalar.muli v7 c1_i32_111
  let v106 : BitVec 32 := Scalar.addi c0_i32_112 v105
  v106.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_127 : BitVec 32 := 1#32
  let v115 : BitVec 32 := Scalar.muli v5 c1_i32_127
  let v116 : BitVec 32 := Scalar.addi c0_i32_128 v115
  v116.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_142 : BitVec 32 := 1#32
  let v125 : BitVec 32 := Scalar.muli v5 c1_i32_142
  let v126 : BitVec 32 := Scalar.addi c0_i32_143 v125
  v126.toNat
def k0_dev9 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_328 : BitVec 32 := 1#32
  let v271 : BitVec 32 := Scalar.muli v7 c1_i32_328
  let v272 : BitVec 32 := Scalar.addi c0_i32_329 v271
  v272.toNat
def k0_dev10 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_355 : BitVec 32 := 1#32
  let v289 : BitVec 32 := Scalar.muli v5 c1_i32_355
  let v290 : BitVec 32 := Scalar.addi c0_i32_356 v289
  v290.toNat
def k0_dev11 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_387 : BitVec 32 := 1#32
  let v307 : BitVec 32 := Scalar.muli v7 c1_i32_387
  let v308 : BitVec 32 := Scalar.addi c0_i32_388 v307
  v308.toNat
def k0_dev12 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_418 : BitVec 32 := 1#32
  let v325 : BitVec 32 := Scalar.muli v5 c1_i32_418
  let v326 : BitVec 32 := Scalar.addi c0_i32_419 v325
  v326.toNat
def k0_dev13 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_608 : BitVec 32 := 1#32
  let v471 : BitVec 32 := Scalar.muli v7 c1_i32_608
  let v472 : BitVec 32 := Scalar.addi c0_i32_609 v471
  v472.toNat
def k0_dev14 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_639 : BitVec 32 := 1#32
  let v489 : BitVec 32 := Scalar.muli v5 c1_i32_639
  let v490 : BitVec 32 := Scalar.addi c0_i32_640 v489
  v490.toNat
abbrev stage0_0 : Fin 1 → Memref sig .tc .vmem S16x512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x8x64, .bf16⟩
  | .hbm, ⟨1, _⟩ => ⟨S2x2048x8x64, .bf16⟩
  | .hbm, ⟨2, _⟩ => ⟨S2x2048x8x64, .bf16⟩
  | .hbm, ⟨3, _⟩ => ⟨S2x2048x8x64, .f32⟩
  | .hbm, ⟨4, _⟩ => ⟨S2x2048x8x64, .f32⟩
  | .hbm, ⟨5, _⟩ => ⟨S2x2048x8x64, .f32⟩
  | .hbm, ⟨6, _⟩ => ⟨S_, .f32⟩
  | .hbm, ⟨7, _⟩ => ⟨S2x2048x8, .f32⟩
  | .hbm, ⟨8, _⟩ => ⟨S2x2048x8x1, .f32⟩
  | .hbm, ⟨9, _⟩ => ⟨S_, .f32⟩
  | .hbm, ⟨10, _⟩ => ⟨S2x2048x8x1, .f32⟩
  | .hbm, ⟨11, _⟩ => ⟨S2x2048x8x1, .f32⟩
  | .hbm, ⟨12, _⟩ => ⟨S_, .f32⟩
  | .hbm, ⟨13, _⟩ => ⟨S2x2048x8x1, .f32⟩
  | .hbm, ⟨14, _⟩ => ⟨S2x2048x8x1, .f32⟩
  | .hbm, ⟨15, _⟩ => ⟨S2x2048x8x64, .f32⟩
  | .hbm, ⟨16, _⟩ => ⟨S2x2048x8x64, .f32⟩
  | .hbm, ⟨17, _⟩ => ⟨S2x2048x8x64, .f32⟩
  | .hbm, ⟨18, _⟩ => ⟨S_, .f32⟩
  | .hbm, ⟨19, _⟩ => ⟨S2x2048x8x1, .f32⟩
  | .hbm, ⟨20, _⟩ => ⟨S2x2048x8x1, .f32⟩
  | .hbm, ⟨21, _⟩ => ⟨S2x2048x8x64, .f32⟩
  | .hbm, ⟨22, _⟩ => ⟨S2x2048x8x64, .f32⟩
  | .hbm, ⟨23, _⟩ => ⟨S2x8x2048x2048, .f32⟩
  | .hbm, ⟨24, _⟩ => ⟨S_, .f32⟩
  | .hbm, ⟨25, _⟩ => ⟨S2x8x2048x2048, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x2048x8x64, .f32⟩
  | .hbm, ⟨39, _⟩ => ⟨S2x2048x8x64, .f32⟩
  | .hbm, ⟨40, _⟩ => ⟨S_, .f32⟩
  | .hbm, ⟨41, _⟩ => ⟨S2x2048x8, .f32⟩
  | .hbm, ⟨42, _⟩ => ⟨S2x2048x8x1, .f32⟩
  | .hbm, ⟨43, _⟩ => ⟨S_, .f32⟩
  | .hbm, ⟨44, _⟩ => ⟨S2x2048x8x1, .f32⟩
  | .hbm, ⟨45, _⟩ => ⟨S2x2048x8x1, .f32⟩
  | .hbm, ⟨46, _⟩ => ⟨S_, .f32⟩
  | .hbm, ⟨47, _⟩ => ⟨S2x2048x8x1, .f32⟩
  | .hbm, ⟨48, _⟩ => ⟨S2x2048x8x1, .f32⟩
  | .hbm, ⟨49, _⟩ => ⟨S2x2048x8x64, .f32⟩
  | .hbm, ⟨50, _⟩ => ⟨S2x2048x8x64, .f32⟩
  | .hbm, ⟨51, _⟩ => ⟨S2x2048x8x64, .f32⟩
  | .hbm, ⟨52, _⟩ => ⟨S_, .f32⟩
  | .hbm, ⟨53, _⟩ => ⟨S2x2048x8x1, .f32⟩
  | .hbm, ⟨54, _⟩ => ⟨S2x2048x8x1, .f32⟩
  | .hbm, ⟨55, _⟩ => ⟨S2x2048x8x64, .f32⟩
  | .hbm, ⟨56, _⟩ => ⟨S2x2048x8x64, .f32⟩
  | .hbm, ⟨57, _⟩ => ⟨S2x8x64x2048, .f32⟩
  | .hbm, ⟨58, _⟩ => ⟨S2x2048x8x64, .f32⟩
  | _, _ => ⟨S2x2048x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Ideal.Protocol.lean ====
/-
  The exchange of quantised keys and values between the four devices, as a table of cells, pieces and payments.

  Devices stand on a ring; `rt c` is the next one, `lf c` the one before. Each device holds its own codes and scales in slot 0
  of two scratch arrays, and twelve copies per device fill the other three slots of the neighbours: copy `i` of device `c` raises
  the send cell `i` of `c` and the recv cell `i` of `tgt c i`.

  copies 0, 1    codes, slot 0 half 0 / 1        to slot 1 on the right
  copies 2, 3    codes, slot 0 half 0 / 1        to slot 2 on the left
  copies 4, 5    key codes, slot 1 half 0 / 1    to slot 3 on the right (what arrived by copies 0, 1)
  copies 6, 7    value codes, slot 2 half 0 / 1  to slot 3 on the left (what arrived by copies 2, 3)
  copies 8, 9    scales, slot 0                  to slot 1 on the right, to slot 2 on the left
  copies 10, 11  key scales of slot 1 to slot 3 on the right, value scales of slot 2 to slot 3 on the left

  Order on every device: signal the barrier of the left, then of the right; wait for two units on its own barrier (both neighbours
  have entered, and hand over the places their slots are to be written to); start 8, 9, 0, 1, 2, 3; wait recv 8, start 10; wait
  recv 9, start 11; wait recv 0, start 4; wait recv 2, start 6; wait recv 1, start 5; wait recv 3, start 7; wait recv 10, 11, 4,
  6, then 5, 7; at the end wait for all twelve send cells. Every cell is used for one round.

  Contents: whatever a slot holds it is the same function of the launch, `KV` for codes and `SC` for scales: slot 0 of device `c` is
  its own, slot 1 that of `lf c`, slot 2 that of `rt c`, slot 3 that of `lf (lf c) = rt (rt c)`.
-/
module

public import proofs.«01_k».proof.Proof.Gen.KernelIdeal.Skeleton
public import proofs.«01_k».proof.Proof.Gen.KernelIdeal.Frame
public import Idealize.ShloMosaic.Lib.Pipeline.RegionTalk
public import Idealize.ShloMosaic.Lib.Pipeline.Kit
public import Idealize.ShloMosaic.Lib.Rounds
public import Idealize.ShloMosaic.Lib.Tactic

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline's rounds beside the exchange's, whose duties are named by a `Bool` -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The ring -/

def rt (c : Dev nD) : Dev nD := ⟨(c.val + 1) % 4, Nat.mod_lt _ (by decide)⟩
def lf (c : Dev nD) : Dev nD := ⟨(c.val + 3) % 4, Nat.mod_lt _ (by decide)⟩
/-- The left neighbour of the right neighbour is the device itself. -/
theorem lf_rt (c : Dev nD) : lf (rt c) = c := by revert c; decide
/-- The right neighbour of the left neighbour is the device itself. -/
theorem rt_lf (c : Dev nD) : rt (lf c) = c := by revert c; decide
/-- Two steps to the left and two steps to the right meet at the same device. -/
theorem lf_lf (c : Dev nD) : lf (lf c) = rt (rt c) := by revert c; decide
/-- The ring as a permutation of the devices. -/
def ring : Dev nD ≃ Dev nD := ⟨rt, lf, lf_rt, rt_lf⟩

/-- Whether copy `i` goes to the right. -/
def toRight : Fin 12 → Bool := ![true, true, false, false, true, true, false, false, true, false, true, false]
/-- The device copy `i` of `c` lands on, and the one whose copy `i` lands on `c`. -/
def tgt (c : Dev nD) (i : Fin 12) : Dev nD := if toRight i then rt c else lf c
def org (c : Dev nD) (i : Fin 12) : Dev nD := if toRight i then lf c else rt c
/-- Copy `i` of the device it comes from lands here. -/
theorem tgt_org (c : Dev nD) (i : Fin 12) : tgt (org c i) i = c := by revert c i; decide
/-- Where copy `i` lands, it comes from here. -/
theorem org_tgt (c : Dev nD) (i : Fin 12) : org (tgt c i) i = c := by revert c i; decide
/-- Copy `i` as a permutation of the devices. -/
def hop (i : Fin 12) : Dev nD ≃ Dev nD := ⟨fun c => tgt c i, fun c => org c i, fun c => org_tgt c i, fun c => tgt_org c i⟩

/-! ## Cells -/

def sendS (i : Fin 12) : DmaSem sig := ⟨4 + i.val, by have := i.isLt; show 4 + i.val < 28; omega⟩
def recvS (i : Fin 12) : DmaSem sig := ⟨16 + i.val, by have := i.isLt; show 16 + i.val < 28; omega⟩
abbrev barCell (c : Dev nD) : GSem nD τ sig := ((c : Thread nD τ), .reg barrier0)
abbrev sendCell (c : Dev nD) (i : Fin 12) : GSem nD τ sig := ((c : Thread nD τ), .dma (sendS i))
abbrev recvCell (c : Dev nD) (i : Fin 12) : GSem nD τ sig := ((c : Thread nD τ), .dma (recvS i))

/-- The copy a DMA semaphore of the exchange belongs to. -/
def copyOf (s : DmaSem sig) : Fin 12 := ⟨(s.val + 8) % 12, Nat.mod_lt _ (by decide)⟩
/-- The send semaphore of copy `i` belongs to copy `i`. -/
theorem copyOf_send (i : Fin 12) : copyOf (sendS i) = i := by revert i; decide
/-- The recv semaphore of copy `i` belongs to copy `i`. -/
theorem copyOf_recv (i : Fin 12) : copyOf (recvS i) = i := by revert i; decide

/-! ## Contents and pieces -/

/-- The device whose codes slot `s` of device `c` is to hold. -/
def slotOf (c : Dev nD) (s : ℕ) : Dev nD := if s = 0 then c else if s = 1 then lf c else if s = 2 then rt c else lf (lf c)

/-- A device's own codes, by half, key or value, row of the half, feature and position; and its own scales. -/
abbrev Codes (F : FTy → Type) : Type := Fin 2 → Fin 2 → Fin 8 → Fin 64 → Fin 512 → Elt F .i8
abbrev Scales (F : FTy → Type) : Type := Fin 2 → Fin 16 → Fin 512 → Elt F .f32

variable (KB : Dev nD → Codes F) (SB : Dev nD → Scales F)

/-- What device `c`'s code scratch holds once every slot is filled, and its scale scratch. -/
def KV (c : Dev nD) : Buf (Elt F) ((c : Thread nD τ).loc cc0_scratch0) :=
  fun i : S4x2x2x8x64x512.Idx => KB (slotOf c (i 0).val) (i 1) (i 2) (i 3) (i 4) (i 5)
def SC (c : Dev nD) : Buf (Elt F) ((c : Thread nD τ).loc cc0_scratch1) :=
  fun i : S4x2x16x1x512.Idx => SB (slotOf c (i 0).val) (i 1) (i 2) (i 4)

/-- The elements of a slot of the code scratch; of one half of it; of the keys (`k = 0`) or values of that half. -/
def kS (s : ℕ) : Finset S4x2x2x8x64x512.Idx := Finset.univ.filter fun i => (i 0).val = s
def kH (s h : ℕ) : Finset S4x2x2x8x64x512.Idx := Finset.univ.filter fun i => (i 0).val = s ∧ (i 1).val = h
def kQ (s h k : ℕ) : Finset S4x2x2x8x64x512.Idx := Finset.univ.filter fun i => (i 0).val = s ∧ (i 1).val = h ∧ (i 2).val = k
/-- The elements of a slot of the scale scratch; of the keys' or values' scales of it. -/
def cS (s : ℕ) : Finset S4x2x16x1x512.Idx := Finset.univ.filter fun i => (i 0).val = s
def cQ (s k : ℕ) : Finset S4x2x16x1x512.Idx := Finset.univ.filter fun i => (i 0).val = s ∧ (i 1).val = k

abbrev kvPts (c : Dev nD) (S : Finset S4x2x2x8x64x512.Idx) (q : PosShare TreeShare) : sProp 𝕄 :=
  ((c : Thread nD τ).loc cc0_scratch0) ↦[S]{q} KV KB c
abbrev scPts (c : Dev nD) (S : Finset S4x2x16x1x512.Idx) (q : PosShare TreeShare) : sProp 𝕄 :=
  ((c : Thread nD τ).loc cc0_scratch1) ↦[S]{q} SC SB c
abbrev kvAny (c : Dev nD) (S : Finset S4x2x2x8x64x512.Idx) : sProp 𝕄 :=
  iprop(∃ f : Buf (Elt F) ((c : Thread nD τ).loc cc0_scratch0), ((c : Thread nD τ).loc cc0_scratch0) ↦[S]{fullShare} f)
abbrev scAny (c : Dev nD) (S : Finset S4x2x16x1x512.Idx) : sProp 𝕄 :=
  iprop(∃ f : Buf (Elt F) ((c : Thread nD τ).loc cc0_scratch1), ((c : Thread nD τ).loc cc0_scratch1) ↦[S]{fullShare} f)

/-- A source slot is read by the device while two copies read it: the device keeps one half of the share, the copies have
    the halves of the other. -/
abbrev qKeep : PosShare TreeShare := fullShare.left
abbrev qLend : PosShare TreeShare := fullShare.right
abbrev qRt : PosShare TreeShare := fullShare.right.left
abbrev qLf : PosShare TreeShare := fullShare.right.right

/-- The place copy `i` writes on device `c`, at contents not chosen. -/
def landAny (c : Dev nD) : Fin 12 → sProp 𝕄
  | 0 => kvAny c (kH 1 0) | 1 => kvAny c (kH 1 1) | 2 => kvAny c (kH 2 0) | 3 => kvAny c (kH 2 1)
  | 4 => kvAny c (kQ 3 0 0) | 5 => kvAny c (kQ 3 1 0) | 6 => kvAny c (kQ 3 0 1) | 7 => kvAny c (kQ 3 1 1)
  | 8 => scAny c (cS 1) | 9 => scAny c (cS 2) | 10 => scAny c (cQ 3 0) | 11 => scAny c (cQ 3 1)

/-- What copy `i` landing on device `c` hands over: the place it wrote, at what it brought. -/
def recvPay (c : Dev nD) : Fin 12 → sProp 𝕄
  | 0 => kvPts KB c (kH 1 0) fullShare | 1 => kvPts KB c (kH 1 1) fullShare
  | 2 => kvPts KB c (kH 2 0) fullShare | 3 => kvPts KB c (kH 2 1) fullShare
  | 4 => kvPts KB c (kQ 3 0 0) fullShare | 5 => kvPts KB c (kQ 3 1 0) fullShare
  | 6 => kvPts KB c (kQ 3 0 1) fullShare | 7 => kvPts KB c (kQ 3 1 1) fullShare
  | 8 => scPts SB c (cS 1) fullShare | 9 => scPts SB c (cS 2) fullShare
  | 10 => scPts SB c (cQ 3 0) fullShare | 11 => scPts SB c (cQ 3 1) fullShare

/-- What copy `i` of device `c` gives back to it: the share of the source it was lent. -/
def sendPay (c : Dev nD) : Fin 12 → sProp 𝕄
  | 0 => kvPts KB c (kH 0 0) qRt | 1 => kvPts KB c (kH 0 1) qRt
  | 2 => kvPts KB c (kH 0 0) qLf | 3 => kvPts KB c (kH 0 1) qLf
  | 4 => kvPts KB c (kQ 1 0 0) qLend | 5 => kvPts KB c (kQ 1 1 0) qLend
  | 6 => kvPts KB c (kQ 2 0 1) qLend | 7 => kvPts KB c (kQ 2 1 1) qLend
  | 8 => scPts SB c (cS 0) qRt | 9 => scPts SB c (cS 0) qLf
  | 10 => scPts SB c (cQ 1 0) qLend | 11 => scPts SB c (cQ 2 1) qLend

/-- A device entering hands each neighbour the places that neighbour's copies write on it, and that their recv cells are open. -/
def place (d : Dev nD) (i : Fin 12) : sProp 𝕄 := iprop(landAny d i ∗ reached ER (recvCell d i) 0)
/-- Paid to `c`'s barrier by its right neighbour (`true`) and by its left one (`false`). -/
def barPay (c : Dev nD) : Bool → sProp 𝕄
  | true => iprop(place (rt c) 0 ∗ place (rt c) 1 ∗ place (rt c) 4 ∗ place (rt c) 5 ∗ place (rt c) 8 ∗ place (rt c) 10)
  | false => iprop(place (lf c) 2 ∗ place (lf c) 3 ∗ place (lf c) 6 ∗ place (lf c) 7 ∗ place (lf c) 9 ∗ place (lf c) 11)

/-! ## The schedule -/

/-- The credit of copy `i`. -/
def cr : Fin 12 → ℕ
  | 0 | 1 | 2 | 3 => sig.dmaCredit .tc (Kind.tc.table .vmem) cc0_scratch0.idx S2x8x64x512 .i8
  | 4 | 5 | 6 | 7 => sig.dmaCredit .tc (Kind.tc.table .vmem) cc0_scratch0.idx S8x64x512 .i8
  | 8 | 9 => sig.dmaCredit .tc (Kind.tc.table .vmem) cc0_scratch1.idx S2x16x1x512 .f32
  | 10 | 11 => sig.dmaCredit .tc (Kind.tc.table .vmem) cc0_scratch1.idx S16x1x512 .f32
/-- Every copy has a positive credit. -/
theorem cr_pos (i : Fin 12) : 0 < cr i := by
  unfold cr; split <;> exact sig.dmaCredit_pos _ _ _ _ _ (by decide)

def payOf (c : Dev nD) : SemLoc sig → Bool → sProp 𝕄
  | .reg _, d => barPay c d
  | .dma s, _ => if s.val < 16 then sendPay KB SB c (copyOf s) else recvPay KB SB c (copyOf s)

/-- The barrier has two payers, each DMA cell of the exchange one; one round on each. -/
def dutyOf : SemLoc sig → Finset Bool
  | .reg _ => {true, false}
  | .dma s => if 4 ≤ s.val then {true} else ∅

def rd : Rounds.Schedule (GSem nD τ sig) Bool 𝕄 where
  duties g r := if r = 0 ∧ g.1.2 = .tc then dutyOf g.2 else ∅
  unitless _ := False
  amount g _ _ := match g.2 with | .reg _ => 1 | .dma s => cr (copyOf s)
  payload g _ d := payOf KB SB g.1.1 g.2 d
  amount_pos g _ _ _ := by
    rcases g with ⟨t, s | s⟩
    · exact Nat.one_pos
    · exact cr_pos _

instance landAny_storable (c : Dev nD) (i : Fin 12) : BI.Storable (upEmb : UEmb _ 𝕄) (landAny (F := F) c i) := by
  unfold landAny; split <;> infer_instance
instance place_storable (c : Dev nD) (i : Fin 12) : BI.Storable (upEmb : UEmb _ 𝕄) (place (F := F) c i) := by
  unfold place; infer_instance

instance rd_payload_storable (g : GSem nD τ sig) (r : ℕ) (d : Bool) :
    BI.Storable (upEmb : UEmb _ 𝕄) ((rd (F := F) KB SB).payload g r d) := by
  show BI.Storable upEmb (payOf KB SB g.1.1 g.2 d)
  unfold payOf
  split
  · unfold barPay; split <;> infer_instance
  · split
    · unfold sendPay; split <;> infer_instance
    · unfold recvPay; split <;> infer_instance

section Tables
variable (c : Dev nD) (i : Fin 12)

/-- In round 0 a cell's duties are those of its semaphore. -/
theorem duties_tc (sm : SemLoc sig) : (rd (F := F) KB SB).duties ((c : Thread nD τ), sm) 0 = dutyOf sm := by
  show (if (0 : ℕ) = 0 ∧ (c : Thread nD τ).2 = .tc then dutyOf sm else ∅) = _
  exact if_pos ⟨rfl, rfl⟩
/-- The barrier has two duties, one for each neighbour. -/
theorem duties_bar : (rd (F := F) KB SB).duties (barCell c) 0 = {true, false} := duties_tc KB SB c _
/-- A send cell has one duty. -/
theorem duties_send : (rd (F := F) KB SB).duties (sendCell c i) 0 = {true} :=
  (duties_tc KB SB c _).trans (if_pos (Nat.le_add_right 4 i.val))
/-- A recv cell has one duty. -/
theorem duties_recv : (rd (F := F) KB SB).duties (recvCell c i) 0 = {true} :=
  (duties_tc KB SB c _).trans (if_pos (by show 4 ≤ 16 + i.val; omega))
/-- After round 0 no cell has a duty. -/
theorem duties_later (g : GSem nD τ sig) : ∀ r, 1 ≤ r → (rd (F := F) KB SB).duties g r = ∅ :=
  fun r hr => if_neg fun h => by omega

/-- Each duty of the barrier pays one unit. -/
theorem amount_bar (d : Bool) : (rd (F := F) KB SB).amount (barCell c) 0 d = 1 := rfl
/-- A send cell's duty pays the copy's credit. -/
theorem amount_send (d : Bool) : (rd (F := F) KB SB).amount (sendCell c i) 0 d = cr i := congrArg cr (copyOf_send i)
/-- A recv cell's duty pays the copy's credit. -/
theorem amount_recv (d : Bool) : (rd (F := F) KB SB).amount (recvCell c i) 0 d = cr i := congrArg cr (copyOf_recv i)

/-- The barrier expects two units. -/
theorem expect_bar : (rd (F := F) KB SB).expect (barCell c) 0 = 2 := by
  unfold Schedule.expect Schedule.amountOf; rw [duties_bar]; rfl
/-- A send cell expects the copy's credit. -/
theorem expect_send : (rd (F := F) KB SB).expect (sendCell c i) 0 = cr i := by
  unfold Schedule.expect Schedule.amountOf; rw [duties_send, Finset.sum_singleton, amount_send]
/-- A recv cell expects the copy's credit. -/
theorem expect_recv : (rd (F := F) KB SB).expect (recvCell c i) 0 = cr i := by
  unfold Schedule.expect Schedule.amountOf; rw [duties_recv, Finset.sum_singleton, amount_recv]

/-- What a duty of the barrier hands over. -/
theorem payload_bar (d : Bool) : (rd (F := F) KB SB).payload (barCell c) 0 d = barPay c d := rfl
/-- What a send cell's duty hands over. -/
theorem payload_send (d : Bool) : (rd (F := F) KB SB).payload (sendCell c i) 0 d = sendPay KB SB c i :=
  (if_pos (by show 4 + i.val < 16; omega) : payOf KB SB c (.dma (sendS i)) d = _).trans (by rw [copyOf_send])
/-- What a recv cell's duty hands over. -/
theorem payload_recv (d : Bool) : (rd (F := F) KB SB).payload (recvCell c i) 0 d = recvPay KB SB c i :=
  (if_neg (by show ¬ 16 + i.val < 16; omega) : payOf KB SB c (.dma (recvS i)) d = _).trans (by rw [copyOf_recv])

/-- What the whole barrier hands over is what its two payers give. -/
theorem rest_bar : bigSep ((rd (F := F) KB SB).duties (barCell c) 0 \ ∅) (fun d => (rd (F := F) KB SB).payload (barCell c) 0 d)
    = iprop(barPay c true ∗ barPay c false) := by
  rw [Finset.sdiff_empty, duties_bar, bigSep_insert (by decide), bigSep_singleton]; rfl
/-- What a send cell hands over is what its one duty gives. -/
theorem rest_send : bigSep ((rd (F := F) KB SB).duties (sendCell c i) 0 \ ∅) (fun d => (rd (F := F) KB SB).payload (sendCell c i) 0 d)
    = sendPay KB SB c i := by
  rw [Finset.sdiff_empty, duties_send, bigSep_singleton, payload_send]
/-- What a recv cell hands over is what its one duty gives. -/
theorem rest_recv : bigSep ((rd (F := F) KB SB).duties (recvCell c i) 0 \ ∅) (fun d => (rd (F := F) KB SB).payload (recvCell c i) 0 d)
    = recvPay KB SB c i := by
  rw [Finset.sdiff_empty, duties_recv, bigSep_singleton, payload_recv]

end Tables

/-! ## What each device owes at launch, and the levels -/

/-- The recv credits the copies of the list pay. -/
def debt (c : Dev nD) : List (Fin 12) → CellTallies nD τ sig Unit
  | [] => 0
  | i :: l => debt c l + tallyAt (recvCell (tgt c i) i) () (cr i)

/-- The order in which a device starts its copies. -/
abbrev order : List (Fin 12) := [8, 9, 0, 1, 2, 3, 10, 11, 4, 6, 5, 7]

/-- Owed: every copy's recv credit, and one unit to each neighbour's barrier. -/
def O₀ (c : Dev nD) : CellTallies nD τ sig Unit :=
  debt c order + tallyAt (barCell (rt c)) () 1 + tallyAt (barCell (lf c)) () 1

def L (g : GSem nD τ sig) : Finset Unit := if g.1.2 = .tc then {()} else ∅
/-- Whether copy `i` is a second hop. -/
def second : Fin 12 → Bool := ![false, false, false, false, true, true, true, true, false, false, true, true]
def lvR (i : Fin 12) : ℕ := if second i then 3 else 2
/-- Barrier cells at 1, recv cells of first hops at 2, of second hops at 3; the rest at 0. -/
def lv (g : GSem nD τ sig) (_ : Unit) : ℕ :=
  match g.2 with | .reg _ => 1 | .dma s => if s.val < 16 then 0 else lvR (copyOf s)

/-- Only cells of a device's main core have a level. -/
theorem L_of_ne (g : GSem nD τ sig) (h : g.1.2 ≠ .tc) : L g = ∅ := if_neg h
/-- Every cell of a device's main core has a level. -/
theorem L_tc (c : Dev nD) (sm : SemLoc sig) : L ((c : Thread nD τ), sm) = {()} := if_pos rfl
/-- A barrier is at level 1. -/
theorem lv_bar (c : Dev nD) : lv (barCell c) () = 1 := rfl
/-- A recv cell is at its copy's level. -/
theorem lv_recv (c : Dev nD) (i : Fin 12) : lv (recvCell c i) () = lvR i :=
  (if_neg (by show ¬ 16 + i.val < 16; omega)).trans (congrArg lvR (copyOf_recv i))
/-- Recv cells are above the barriers. -/
theorem lvR_pos (i : Fin 12) : 1 < lvR i := by unfold lvR; split <;> decide

/-- A tally at one cell is positive at that cell only. -/
theorem tallyAt_pos {g g' : GSem nD τ sig} {u u' : Unit} {n : ℕ} (h : 0 < tallyAt g' u' n g u) : g = g' := by
  rw [tallyAt_apply] at h
  split at h
  · next e => exact e.1
  · exact absurd h (Nat.lt_irrefl 0)

/-- A device owes only landings of copies in the list. -/
theorem debt_pos {c : Dev nD} {l : List (Fin 12)} {g : GSem nD τ sig} {u : Unit} (h : 0 < debt c l g u) :
    ∃ i ∈ l, g = recvCell (tgt c i) i := by
  induction l with
  | nil => exact absurd h (Nat.lt_irrefl 0)
  | cons i l ih =>
    unfold debt at h
    rw [Pi.add_apply, Finsupp.add_apply] at h
    rcases Nat.add_pos_iff_pos_or_pos.mp h with h | h
    · obtain ⟨j, hj, e⟩ := ih h; exact ⟨j, List.mem_cons_of_mem _ hj, e⟩
    · exact ⟨i, List.mem_cons_self .., tallyAt_pos h⟩

/-- A device waits on a cell while it owes the copies of `l`, all at higher levels. -/
theorem mayWait_debt (c : Dev nD) (sm : SemLoc sig) (l : List (Fin 12)) (h : ∀ i ∈ l, lv ((c : Thread nD τ), sm) () < lvR i) :
    (levAts L lv : sProp 𝕄) ⊢ MayWait (c : Thread nD τ) sm () (debt c l) :=
  Pipeline.mayWait_of_levAts (by rw [L_tc]; exact Finset.mem_singleton_self _) fun g u hg => by
    obtain ⟨i, hi, rfl⟩ := debt_pos hg
    exact ⟨by rw [L_tc]; exact Finset.mem_singleton_self _, by rw [lv_recv]; exact h i hi⟩

/-! ## The printed device ids -/

/-- The first device the program addresses is the left neighbour. -/
theorem dev1 (c : Dev nD) : (⟨k0_dev1 c, k0_dev1_lt c⟩ : Dev nD) = lf c := by revert c; decide +kernel
/-- The second device the program addresses is the right neighbour. -/
theorem dev2 (c : Dev nD) : (⟨k0_dev2 c, k0_dev2_lt c⟩ : Dev nD) = rt c := by revert c; decide +kernel
/-- The third device the program addresses is the right neighbour. -/
theorem dev3 (c : Dev nD) : (⟨k0_dev3 c, k0_dev3_lt c⟩ : Dev nD) = rt c := by revert c; decide +kernel
/-- The fourth device the program addresses is the left neighbour. -/
theorem dev4 (c : Dev nD) : (⟨k0_dev4 c, k0_dev4_lt c⟩ : Dev nD) = lf c := by revert c; decide +kernel
/-- The fifth device the program addresses is the right neighbour. -/
theorem dev5 (c : Dev nD) : (⟨k0_dev5 c, k0_dev5_lt c⟩ : Dev nD) = rt c := by revert c; decide +kernel
/-- The sixth device the program addresses is the right neighbour. -/
theorem dev6 (c : Dev nD) : (⟨k0_dev6 c, k0_dev6_lt c⟩ : Dev nD) = rt c := by revert c; decide +kernel
/-- The seventh device the program addresses is the left neighbour. -/
theorem dev7 (c : Dev nD) : (⟨k0_dev7 c, k0_dev7_lt c⟩ : Dev nD) = lf c := by revert c; decide +kernel
/-- The eighth device the program addresses is the left neighbour. -/
theorem dev8 (c : Dev nD) : (⟨k0_dev8 c, k0_dev8_lt c⟩ : Dev nD) = lf c := by revert c; decide +kernel
/-- The ninth device the program addresses is the right neighbour. -/
theorem dev9 (c : Dev nD) : (⟨k0_dev9 c, k0_dev9_lt c⟩ : Dev nD) = rt c := by revert c; decide +kernel
/-- The tenth device the program addresses is the left neighbour. -/
theorem dev10 (c : Dev nD) : (⟨k0_dev10 c, k0_dev10_lt c⟩ : Dev nD) = lf c := by revert c; decide +kernel
/-- The eleventh device the program addresses is the right neighbour. -/
theorem dev11 (c : Dev nD) : (⟨k0_dev11 c, k0_dev11_lt c⟩ : Dev nD) = rt c := by revert c; decide +kernel
/-- The twelfth device the program addresses is the left neighbour. -/
theorem dev12 (c : Dev nD) : (⟨k0_dev12 c, k0_dev12_lt c⟩ : Dev nD) = lf c := by revert c; decide +kernel
/-- The thirteenth device the program addresses is the right neighbour. -/
theorem dev13 (c : Dev nD) : (⟨k0_dev13 c, k0_dev13_lt c⟩ : Dev nD) = rt c := by revert c; decide +kernel
/-- The fourteenth device the program addresses is the left neighbour. -/
theorem dev14 (c : Dev nD) : (⟨k0_dev14 c, k0_dev14_lt c⟩ : Dev nD) = lf c := by revert c; decide +kernel

end Cert.KernelIdeal.Talk

end
-- ==== Proof.Ideal.Pieces.lean ====
/-
  The pieces of the two exchanged scratch arrays: which rectangles they are, how they split and join, and that a copy carries the
  contents function of its source's device to that of its target's.
-/
module

public import proofs.«01_k».proof.Proof.Ideal.Protocol

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The exchanged scratch arrays and the two accumulators, whole. -/
abbrev kvM : Memref sig .tc .vmem S4x2x2x8x64x512 .i8 := Memref.whole cc0_scratch0
abbrev scM : Memref sig .tc .vmem S4x2x16x1x512 .f32 := Memref.whole cc0_scratch1
abbrev accM : Memref sig .tc .vmem S16x512x64 .f32 := Memref.whole cc0_scratch2
abbrev denM : Memref sig .tc .vmem S16x512x1 .f32 := Memref.whole cc0_scratch3

/-! ## Rectangles and pieces -/

/-- Half a slot of the code scratch is its keys' quarter and its values' quarter. -/
theorem kH_eq (s h : ℕ) : kH s h = kQ s h 0 ∪ kQ s h 1 := by
  ext i
  have h2 : (i 2).val < 2 := (i 2).isLt
  simp only [kH, kQ, Finset.mem_union, Finset.mem_filter, Finset.mem_univ, true_and]
  omega
/-- A slot of the scale scratch is its keys' scales and its values' scales. -/
theorem cS_eq (s : ℕ) : cS s = cQ s 0 ∪ cQ s 1 := by
  ext i
  have h1 : (i 1).val < 2 := (i 1).isLt
  simp only [cS, cQ, Finset.mem_union, Finset.mem_filter, Finset.mem_univ, true_and]
  omega
/-- The keys' and the values' quarter of a half slot have no element in common. -/
theorem kQ_disj (s h : ℕ) : Disjoint (kQ s h 0) (kQ s h 1) := by
  rw [Finset.disjoint_left]; intro i
  simp only [kQ, Finset.mem_filter, Finset.mem_univ, true_and]
  omega
/-- The keys' and the values' scales of a slot have no element in common. -/
theorem cQ_disj (s : ℕ) : Disjoint (cQ s 0) (cQ s 1) := by
  rw [Finset.disjoint_left]; intro i
  simp only [cQ, Finset.mem_filter, Finset.mem_univ, true_and]
  omega

/-- The rectangle of one half of a slot, both its key and value codes. -/
theorem set_kH (s h : ℕ) (inb) :
    (Rect.unit (s := S4x2x2x8x64x512) ![s, h, 0, 0, 0, 0] S1x1x2x8x64x512.size inb).set = kH s h := by
  ext i
  rw [Rect.mem_set_unit]
  simp only [kH, Finset.mem_filter, Finset.mem_univ, true_and]
  constructor
  · intro H
    have h0 : s ≤ (i 0).val ∧ (i 0).val < s + 1 := H 0
    have h1 : h ≤ (i 1).val ∧ (i 1).val < h + 1 := H 1
    omega
  · rintro ⟨e0, e1⟩ a
    fin_cases a
    · show s ≤ (i 0).val ∧ (i 0).val < s + 1; omega
    · show h ≤ (i 1).val ∧ (i 1).val < h + 1; omega
    · exact ⟨Nat.zero_le _, lt_of_lt_of_eq (i 2).isLt (Nat.zero_add _).symm⟩
    · exact ⟨Nat.zero_le _, lt_of_lt_of_eq (i 3).isLt (Nat.zero_add _).symm⟩
    · exact ⟨Nat.zero_le _, lt_of_lt_of_eq (i 4).isLt (Nat.zero_add _).symm⟩
    · exact ⟨Nat.zero_le _, lt_of_lt_of_eq (i 5).isLt (Nat.zero_add _).symm⟩

/-- The rectangle of the key or the value codes of one half of a slot. -/
theorem set_kQ (s h k : ℕ) (inb) :
    (Rect.unit (s := S4x2x2x8x64x512) ![s, h, k, 0, 0, 0] S1x1x1x8x64x512.size inb).set = kQ s h k := by
  ext i
  rw [Rect.mem_set_unit]
  simp only [kQ, Finset.mem_filter, Finset.mem_univ, true_and]
  constructor
  · intro H
    have h0 : s ≤ (i 0).val ∧ (i 0).val < s + 1 := H 0
    have h1 : h ≤ (i 1).val ∧ (i 1).val < h + 1 := H 1
    have h2 : k ≤ (i 2).val ∧ (i 2).val < k + 1 := H 2
    omega
  · rintro ⟨e0, e1, e2⟩ a
    fin_cases a
    · show s ≤ (i 0).val ∧ (i 0).val < s + 1; omega
    · show h ≤ (i 1).val ∧ (i 1).val < h + 1; omega
    · show k ≤ (i 2).val ∧ (i 2).val < k + 1; omega
    · exact ⟨Nat.zero_le _, lt_of_lt_of_eq (i 3).isLt (Nat.zero_add _).symm⟩
    · exact ⟨Nat.zero_le _, lt_of_lt_of_eq (i 4).isLt (Nat.zero_add _).symm⟩
    · exact ⟨Nat.zero_le _, lt_of_lt_of_eq (i 5).isLt (Nat.zero_add _).symm⟩

/-- Four rows of the key or the value codes of one half of a slot lie in that piece. -/
theorem sub_kQ (s h k o : ℕ) (inb) :
    (Rect.unit (s := S4x2x2x8x64x512) ![s, h, k, o, 0, 0] S1x1x1x4x64x512.size inb).set ⊆ kQ s h k := by
  intro i hi
  rw [Rect.mem_set_unit] at hi
  simp only [kQ, Finset.mem_filter, Finset.mem_univ, true_and]
  have h0 : s ≤ (i 0).val ∧ (i 0).val < s + 1 := hi 0
  have h1 : h ≤ (i 1).val ∧ (i 1).val < h + 1 := hi 1
  have h2 : k ≤ (i 2).val ∧ (i 2).val < k + 1 := hi 2
  omega

/-- The rectangle of a slot's scales. -/
theorem set_cS (s : ℕ) (inb) :
    (Rect.unit (s := S4x2x16x1x512) ![s, 0, 0, 0, 0] S1x2x16x1x512.size inb).set = cS s := by
  ext i
  rw [Rect.mem_set_unit]
  simp only [cS, Finset.mem_filter, Finset.mem_univ, true_and]
  constructor
  · intro H
    have h0 : s ≤ (i 0).val ∧ (i 0).val < s + 1 := H 0
    omega
  · intro e0 a
    fin_cases a
    · show s ≤ (i 0).val ∧ (i 0).val < s + 1; omega
    · exact ⟨Nat.zero_le _, lt_of_lt_of_eq (i 1).isLt (Nat.zero_add _).symm⟩
    · exact ⟨Nat.zero_le _, lt_of_lt_of_eq (i 2).isLt (Nat.zero_add _).symm⟩
    · exact ⟨Nat.zero_le _, lt_of_lt_of_eq (i 3).isLt (Nat.zero_add _).symm⟩
    · exact ⟨Nat.zero_le _, lt_of_lt_of_eq (i 4).isLt (Nat.zero_add _).symm⟩

/-- The rectangle of a slot's key or value scales. -/
theorem set_cQ (s k : ℕ) (inb) :
    (Rect.unit (s := S4x2x16x1x512) ![s, k, 0, 0, 0] S1x1x16x1x512.size inb).set = cQ s k := by
  ext i
  rw [Rect.mem_set_unit]
  simp only [cQ, Finset.mem_filter, Finset.mem_univ, true_and]
  constructor
  · intro H
    have h0 : s ≤ (i 0).val ∧ (i 0).val < s + 1 := H 0
    have h1 : k ≤ (i 1).val ∧ (i 1).val < k + 1 := H 1
    omega
  · rintro ⟨e0, e1⟩ a
    fin_cases a
    · show s ≤ (i 0).val ∧ (i 0).val < s + 1; omega
    · show k ≤ (i 1).val ∧ (i 1).val < k + 1; omega
    · exact ⟨Nat.zero_le _, lt_of_lt_of_eq (i 2).isLt (Nat.zero_add _).symm⟩
    · exact ⟨Nat.zero_le _, lt_of_lt_of_eq (i 3).isLt (Nat.zero_add _).symm⟩
    · exact ⟨Nat.zero_le _, lt_of_lt_of_eq (i 4).isLt (Nat.zero_add _).symm⟩

/-- Four rows of a slot's key or value scales lie in that piece. -/
theorem sub_cQ (s k o : ℕ) (inb) :
    (Rect.unit (s := S4x2x16x1x512) ![s, k, o, 0, 0] S1x1x4x1x512.size inb).set ⊆ cQ s k := by
  intro i hi
  rw [Rect.mem_set_unit] at hi
  simp only [cQ, Finset.mem_filter, Finset.mem_univ, true_and]
  have h0 : s ≤ (i 0).val ∧ (i 0).val < s + 1 := hi 0
  have h1 : k ≤ (i 1).val ∧ (i 1).val < k + 1 := hi 1
  omega

/-! ## Copies -/

section Hop
variable (KB : Dev nD → Codes F) (SB : Dev nD → Scales F)

/-- A rectangle of the codes as a copy names it: its unit axes dropped. -/
abbrev kvHop (o size : Fin 6 → ℕ) (inb : ∀ a, o a + size a ≤ S4x2x2x8x64x512.size a)
    (hs : ∀ a, (Rect.unit (s := S4x2x2x8x64x512) o size inb).stride a = 1) (s' : Shape) (hq : (Rect.unit (s := S4x2x2x8x64x512) o size inb).shape.Squeezes s') :
    Memref sig .tc .vmem s' .i8 :=
  (kvM.slice (Rect.unit (s := S4x2x2x8x64x512) o size inb) hs).squeeze s' hq
/-- A rectangle of the scales as a copy names it. -/
abbrev scHop (o size : Fin 5 → ℕ) (inb : ∀ a, o a + size a ≤ S4x2x16x1x512.size a)
    (hs : ∀ a, (Rect.unit (s := S4x2x16x1x512) o size inb).stride a = 1) (s' : Shape) (hq : (Rect.unit (s := S4x2x16x1x512) o size inb).shape.Squeezes s') :
    Memref sig .tc .vmem s' .f32 :=
  (scM.slice (Rect.unit (s := S4x2x16x1x512) o size inb) hs).squeeze s' hq

/-- The elements a copy of codes reaches are those of its rectangle. -/
theorem set_kvHop (o size inb hs s' hq) : (kvHop o size inb hs s' hq).view.set = (Rect.unit (s := S4x2x2x8x64x512) o size inb).set := by
  rw [Memref.set_view_squeeze]; exact View.set_slice_whole _ _
/-- The elements a copy of scales reaches are those of its rectangle. -/
theorem set_scHop (o size inb hs s' hq) : (scHop o size inb hs s' hq).view.set = (Rect.unit (s := S4x2x16x1x512) o size inb).set := by
  rw [Memref.set_view_squeeze]; exact View.set_slice_whole _ _

/-- Codes copied from a slot of `c` to the same place of a slot of `c'` that is to hold the same device's codes: what is
    written is what the contents function of `c'` says. -/
theorem land_kv (c c' : Dev nD) (o o' size : Fin 6 → ℕ) (inb inb' hs hs') (s' : Shape) (hq hq')
    (h1 : size 0 = 1) (ho : ∀ a, a ≠ 0 → o a = o' a) (hd : slotOf c (o 0) = slotOf c' (o' 0))
    (fd : Buf (Elt F) ((c' : Thread nD τ).loc cc0_scratch0)) :
    ∀ i ∈ (kvHop o' size inb' hs' s' hq').view.set,
      (kvHop o' size inb' hs' s' hq').view.write (Elt F) fd ((kvHop o size inb hs s' hq).view.read (Elt F) (KV KB c)) Finset.univ i
        = KV KB c' i := by
  intro i hi
  obtain ⟨j, -, rfl⟩ := Finset.mem_map.mp hi
  rw [View.write_emb_of_mem _ _ (Finset.mem_univ j), View.read_apply, cast_cast, cast_eq]
  set x := Shape.reshapeEquiv hq.numel_eq j with hx
  set x' := Shape.reshapeEquiv hq'.numel_eq j with hx'
  have exx : x = x' := rfl
  have e (a : Fin 6) : (((kvHop o size inb hs s' hq).view.emb j : S4x2x2x8x64x512.Idx) a).val = o a + 1 * (x a).val := rfl
  have e' (a : Fin 6) : (((kvHop o' size inb' hs' s' hq').view.emb j : S4x2x2x8x64x512.Idx) a).val = o' a + 1 * (x a).val := rfl
  have x0 : (x 0).val = 0 := by have h : (x 0).val < size 0 := (x 0).isLt; omega
  have same (a : Fin 6) (ha : a ≠ 0) : ((kvHop o size inb hs s' hq).view.emb j : S4x2x2x8x64x512.Idx) a
      = ((kvHop o' size inb' hs' s' hq').view.emb j : S4x2x2x8x64x512.Idx) a := Fin.ext (by rw [e, e', ho a ha])
  have z : (((kvHop o size inb hs s' hq).view.emb j : S4x2x2x8x64x512.Idx) 0).val = o 0 := by rw [e, x0]; rfl
  have z' : (((kvHop o' size inb' hs' s' hq').view.emb j : S4x2x2x8x64x512.Idx) 0).val = o' 0 := by rw [e', x0]; rfl
  unfold KV
  rw [z, z', hd, same 1 (by decide), same 2 (by decide), same 3 (by decide), same 4 (by decide), same 5 (by decide)]

/-- A copy of scales from one device's filled scratch leaves, where it lands, what the other device's filled scratch holds, if both slots are of the same device. -/
theorem land_sc (c c' : Dev nD) (o o' size : Fin 5 → ℕ) (inb inb' hs hs') (s' : Shape) (hq hq')
    (h1 : size 0 = 1) (ho : ∀ a, a ≠ 0 → o a = o' a) (hd : slotOf c (o 0) = slotOf c' (o' 0))
    (fd : Buf (Elt F) ((c' : Thread nD τ).loc cc0_scratch1)) :
    ∀ i ∈ (scHop o' size inb' hs' s' hq').view.set,
      (scHop o' size inb' hs' s' hq').view.write (Elt F) fd ((scHop o size inb hs s' hq).view.read (Elt F) (SC SB c)) Finset.univ i
        = SC SB c' i := by
  intro i hi
  obtain ⟨j, -, rfl⟩ := Finset.mem_map.mp hi
  rw [View.write_emb_of_mem _ _ (Finset.mem_univ j), View.read_apply, cast_cast, cast_eq]
  set x := Shape.reshapeEquiv hq.numel_eq j with hx
  have e (a : Fin 5) : (((scHop o size inb hs s' hq).view.emb j : S4x2x16x1x512.Idx) a).val = o a + 1 * (x a).val := rfl
  have e' (a : Fin 5) : (((scHop o' size inb' hs' s' hq').view.emb j : S4x2x16x1x512.Idx) a).val = o' a + 1 * (x a).val := rfl
  have x0 : (x 0).val = 0 := by have h : (x 0).val < size 0 := (x 0).isLt; omega
  have same (a : Fin 5) (ha : a ≠ 0) : ((scHop o size inb hs s' hq).view.emb j : S4x2x16x1x512.Idx) a
      = ((scHop o' size inb' hs' s' hq').view.emb j : S4x2x16x1x512.Idx) a := Fin.ext (by rw [e, e', ho a ha])
  have z : (((scHop o size inb hs s' hq).view.emb j : S4x2x16x1x512.Idx) 0).val = o 0 := by rw [e, x0]; rfl
  have z' : (((scHop o' size inb' hs' s' hq').view.emb j : S4x2x16x1x512.Idx) 0).val = o' 0 := by rw [e', x0]; rfl
  unfold SC
  rw [z, z', hd, same 1 (by decide), same 2 (by decide), same 4 (by decide)]

/-- A piece at any contents, from the piece at some. -/
theorem kvAny_of (c : Dev nD) (S) (f) {P : sProp 𝕄} (h : P = kvAny c S) : (((c : Thread nD τ).loc cc0_scratch0) ↦[S]{fullShare} f : sProp 𝕄) ⊢ P := by
  rw [h]; iintro H; iexists f; iexact H
/-- A piece of the scale scratch at known contents is that piece at some contents. -/
theorem scAny_of (c : Dev nD) (S) (f) {P : sProp 𝕄} (h : P = scAny c S) : (((c : Thread nD τ).loc cc0_scratch1) ↦[S]{fullShare} f : sProp 𝕄) ⊢ P := by
  rw [h]; iintro H; iexists f; iexact H

/-- A piece is its two quarters; its share is its two halves. -/
theorem kvPts_quarters (c : Dev nD) (s h : ℕ) (q) : kvPts KB c (kH s h) q ⊣⊢ iprop(kvPts KB c (kQ s h 0) q ∗ kvPts KB c (kQ s h 1) q) := by
  rw [kH_eq]; exact pointsTo_union (kQ_disj s h)
/-- A slot of the scale scratch is held as its keys' and its values' scales. -/
theorem scPts_quarters (c : Dev nD) (s : ℕ) (q) : scPts SB c (cS s) q ⊣⊢ iprop(scPts SB c (cQ s 0) q ∗ scPts SB c (cQ s 1) q) := by
  rw [cS_eq]; exact pointsTo_union (cQ_disj s)
/-- A share of a piece of the code scratch splits in two. -/
theorem kvPts_share (c : Dev nD) (S) (q : PosShare TreeShare) : kvPts KB c S q ⊣⊢ iprop(kvPts KB c S q.left ∗ kvPts KB c S q.right) :=
  pointsTo_share (by rw [PosShare.left_op_right]; exact Part.mem_some _)
/-- A share of a piece of the scale scratch splits in two. -/
theorem scPts_share (c : Dev nD) (S) (q : PosShare TreeShare) : scPts SB c S q ⊣⊢ iprop(scPts SB c S q.left ∗ scPts SB c S q.right) :=
  pointsTo_share (by rw [PosShare.left_op_right]; exact Part.mem_some _)

end Hop

end Cert.KernelIdeal.Talk

end
-- ==== Proof.Ideal.Steps.lean ====
/-
  The steps a device's body is made of, each as one rule: a copy started, a landing awaited, a source awaited, a piece of slot 0
  stored, and one accumulation.
-/
module

public import proofs.«01_k».proof.Proof.Ideal.Pieces

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (KB : Dev nD → Codes F) (SB : Dev nD → Scales F)

/-! ## What a device holds of the protocol -/

/-- The invariants device `c` opens: its own barrier and its neighbours'; of each copy its own two cells and the recv cell it
    lands on; and that round 0 of the own two is reached. `K` names them. -/
def invs (K : GSem nD τ sig → ℕ) (c : Dev nD) : sProp 𝕄 :=
  iprop(cellInv ER (rd KB SB) (K (barCell c)) (barCell c)
    ∗ cellInv ER (rd KB SB) (K (barCell (lf c))) (barCell (lf c))
    ∗ cellInv ER (rd KB SB) (K (barCell (rt c))) (barCell (rt c))
    ∗ bigSep Finset.univ fun i : Fin 12 => iprop(cellInv ER (rd KB SB) (K (sendCell c i)) (sendCell c i)
        ∗ cellInv ER (rd KB SB) (K (recvCell c i)) (recvCell c i)
        ∗ cellInv ER (rd KB SB) (K (recvCell (tgt c i) i)) (recvCell (tgt c i) i)))
instance invs_persistent (K : GSem nD τ sig → ℕ) (c : Dev nD) : BI.Persistent (invs KB SB K c) := by unfold invs; infer_instance

/-- The invariants, and that round 0 of each of the device's own send and recv cells is reached. -/
def ctx (K : GSem nD τ sig → ℕ) (c : Dev nD) : sProp 𝕄 :=
  iprop(invs KB SB K c ∗ bigSep Finset.univ fun i : Fin 12 => iprop(reached ER (sendCell c i) 0 ∗ reached ER (recvCell c i) 0))
instance ctx_persistent (K : GSem nD τ sig → ℕ) (c : Dev nD) : BI.Persistent (ctx KB SB K c) := by unfold ctx; infer_instance

/-- One of a family held. -/
theorem one_of {I : Type} [Fintype I] [DecidableEq I] (i : I) (Φ : I → sProp 𝕄) : bigSep Finset.univ Φ ⊢ Φ i :=
  BI.bigSep_elim (Finset.mem_univ i)

/-- What a device may consult holds a copy's three invariants, and that round 0 of its own two cells is reached. -/
theorem ctx_copy (K : GSem nD τ sig → ℕ) (c : Dev nD) (i : Fin 12) : ctx KB SB K c
    ⊢ iprop(cellInv ER (rd KB SB) (K (sendCell c i)) (sendCell c i) ∗ cellInv ER (rd KB SB) (K (recvCell c i)) (recvCell c i)
        ∗ cellInv ER (rd KB SB) (K (recvCell (tgt c i) i)) (recvCell (tgt c i) i)
        ∗ reached ER (sendCell c i) 0 ∗ reached ER (recvCell c i) 0) := by
  unfold ctx invs
  iintro ⟨⟨-, -, -, H⟩, G⟩
  ihave H' := (one_of i _) $$ H
  ihave G' := (one_of i _) $$ G
  icases H' with ⟨H1, H2, H3⟩
  icases G' with ⟨G1, G2⟩
  isplitl [H1]; · iexact H1
  isplitl [H2]; · iexact H2
  isplitl [H3]; · iexact H3
  isplitl [G1]; · iexact G1
  iexact G2

/-- Before copy `i` is started: the two duties it pays, and the device's place on its send cell. -/
def ready (c : Dev nD) (i : Fin 12) : sProp 𝕄 :=
  iprop(dutyTok ER (sendCell c i) 0 true ∗ dutyTok ER (recvCell (tgt c i) i) 0 true ∗ atPos ER (sendCell c i) 0 ∅ 0)
/-- While copy `i` is in flight: the credit its send cell will be raised by. -/
def flying (c : Dev nD) (i : Fin 12) : sProp 𝕄 :=
  iprop(cred (tallyAt (sendCell c i) () (cr i)) ∗ atPos ER (sendCell c i) 0 ∅ 0)
/-- Before the landing of copy `i` on `c` is awaited. -/
def await (c : Dev nD) (i : Fin 12) : sProp 𝕄 :=
  iprop(cred (tallyAt (recvCell c i) () (cr i)) ∗ atPos ER (recvCell c i) 0 ∅ 0)
/-- What a device owes, whatever it has waited for. -/
def owesX (c : Dev nD) (O : CellTallies nD τ sig Unit) : sProp 𝕄 := iprop(∃ W, owes (c : Thread nD τ) O W)

/-- After its round a cell is closed and its counter is back at zero. -/
theorem close (κ : ℕ) (g : GSem nD τ sig) :
    iprop(cellInv ER (rd KB SB) κ g ∗ atPos ER g (0 + 1) ∅ 0) ⊢ (|={Set.univ}=> semVal g 0 : sProp 𝕄) :=
  Rounds.cell_close ER (rd KB SB) (Set.mem_univ κ) id (duties_later KB SB g)

abbrev 𝒱x : Variants := Variants.none

/-- A program's weakest precondition as a device's body runs it. -/
abbrev WP (c : Dev nD) (p : Prog (TpuEff nD τ sig (Elt F) Λ₀ .tc) PUnit) (Q : PUnit → sProp 𝕄) : sProp 𝕄 :=
  wp frame (wpE (defs₀ (F := F)) 𝒱x (c : Thread nD τ) none) Set.univ p Q

variable {KB SB}

/-! ## Copies -/

/-- Copy `i` started, its destination being on the device it goes to: the share of the source goes with it. -/
theorem hop_send (K : GSem nD τ sig → ℕ) (c n : Dev nD) (i : Fin 12) (l : List (Fin 12)) (hn : n = tgt c i)
    {s : Shape} {e : EltTy} {src dst : Memref sig .tc .vmem s e} {q : PosShare TreeShare} {fs : Buf (Elt F) (src.view.loc (c : Thread nD τ))}
    {sS sem : DmaSem sig} (hS : sS = sendS i) (hV : sem = recvS i)
    {hsc hsrc hdst hsem} {k : PUnit → Prog (TpuEff nD τ sig (Elt F) Λ₀ .tc) PUnit} {Q : PUnit → sProp 𝕄}
    (hN : dst.view.amount (.dma sem) = cr i)
    (hp : sendPay KB SB c i = (src.view.loc (c : Thread nD τ) ↦[src.view.set]{q} fs))
    (hl : landAny (F := F) n i ⊢ iprop(∃ fd, dst.view.loc (n : Thread nD τ) ↦[dst.view.set]{fullShare} fd))
    (hr : ∀ fd, (dst.view.loc (n : Thread nD τ) ↦[dst.view.set]{fullShare} (dst.view.write (Elt F) fd (src.view.read (Elt F) fs) Finset.univ))
      ⊢ recvPay KB SB n i) :
    iprop(ctx KB SB K c ∗ ready c i ∗ sendPay KB SB c i ∗ place (tgt c i) i ∗ owesX c (debt c (i :: l)))
      ⊢ iprop(((flying c i ∗ owesX c (debt c l)) -∗ WP c (k ⟨⟩) Q)
        -∗ WP c (.op (.enqueueDma src (.remote (n : Thread nD τ) dst (.dma sS) hsc) (.dma sem) hsrc hdst hsem) k) Q) := by
  subst hn hS hV
  iintro ⟨#Hc, Hrdy, Hs, Hpl, Hw⟩ Hk
  unfold ready place owesX
  icases Hrdy with ⟨HtS, HtN, HatS⟩
  icases Hpl with ⟨Hl, #HrN⟩
  icases Hw with ⟨%W, HO⟩
  ihave Hcc := (ctx_copy KB SB K c i) $$ Hc
  icases Hcc with ⟨#HIs, -, #HIr, #HrS, -⟩
  ihave Hl := hl $$ Hl
  icases Hl with ⟨%fd, Hl⟩
  ihave Hs := (Entails.of_eq hp) $$ Hs
  iapply (Rounds.wp_send_pointsTo 𝒱x ER (rd KB SB) (c : Thread nD τ) none (c' := (tgt c i : Thread nD τ)) (src := src) (dst := dst)
      (sS := .dma (sendS i)) (sem := .dma (recvS i)) (q := q) (fs := fs) (κ₁ := K (sendCell c i)) (κ₂ := K (recvCell (tgt c i) i))
      (r₁ := 0) (r₂ := 0) (d₁ := true) (d₂ := true) (fd := fd)
      (by rw [duties_send]; exact Finset.mem_singleton_self _) (by rw [duties_recv]; exact Finset.mem_singleton_self _)
      () () (cr i) hN (amount_send KB SB c i true) (amount_recv KB SB (tgt c i) i true) (debt c l) rfl (W := W)
      (by rw [payload_send, hp]) (by rw [payload_recv]; exact hr fd)) $$ [Hs Hl HO HtS HtN]
  · isplitr; · iexact HIs
    isplitr; · iexact HIr
    isplitl [Hs]; · iexact Hs
    isplitl [Hl]; · iexact Hl
    isplitl [HO]; · iexact HO
    isplitl [HtS]; · iexact HtS
    isplitr; · iexact HrS
    isplitl [HtN]; · iexact HtN
    iexact HrN
  iintro ⟨HcS, HO⟩
  iapply Hk
  isplitl [HcS HatS]
  · unfold flying
    isplitl [HcS]; · iexact HcS
    iexact HatS
  · iexists W; iexact HO

/-- `hop_send` between two rectangles of the code scratch: copy `i` takes slot `o 0` of `c` to slot `o' 0` of `n`. -/
theorem hop_kv (K : GSem nD τ sig → ℕ) (c : Dev nD) (i : Fin 12) (l : List (Fin 12)) (S S' : Finset S4x2x2x8x64x512.Idx) (q : PosShare TreeShare)
    {n : Dev nD} {o o' size : Fin 6 → ℕ} {inb inb' hs hs'} {s' : Shape} {hq hq'} {sS sem : DmaSem sig}
    {hsc hsrc hdst hsem} {k : PUnit → Prog (TpuEff nD τ sig (Elt F) Λ₀ .tc) PUnit} {Q : PUnit → sProp 𝕄}
    (hn : n = tgt c i) (hS : sS = sendS i) (hV : sem = recvS i)
    (hN : (kvHop o' size inb' hs' s' hq').view.amount (.dma sem) = cr i)
    (e : (Rect.unit (s := S4x2x2x8x64x512) o size inb).set = S) (e' : (Rect.unit (s := S4x2x2x8x64x512) o' size inb').set = S')
    (h1 : size 0 = 1) (ho : ∀ a, a ≠ 0 → o a = o' a) (hd : slotOf c (o 0) = slotOf (tgt c i) (o' 0))
    (hp : sendPay KB SB c i = kvPts KB c S q) (hl : landAny (F := F) (tgt c i) i = kvAny (tgt c i) S')
    (hr : recvPay KB SB (tgt c i) i = kvPts KB (tgt c i) S' fullShare) :
    iprop(ctx KB SB K c ∗ ready c i ∗ kvPts KB c S q ∗ place (tgt c i) i ∗ owesX c (debt c (i :: l)))
      ⊢ iprop(((flying c i ∗ owesX c (debt c l)) -∗ WP c (k ⟨⟩) Q)
        -∗ WP c (.op (.enqueueDma (kvHop o size inb hs s' hq) (.remote (n : Thread nD τ) (kvHop o' size inb' hs' s' hq') (.dma sS) hsc) (.dma sem)
          hsrc hdst hsem) k) Q) := by
  subst hn
  rw [← hp]
  refine hop_send K c _ i l rfl hS hV (q := q) (fs := KV KB c) hN ?_ ?_ fun fd => ?_
  · rw [hp]; show kvPts KB c S q = _; rw [set_kvHop, e]
  · rw [hl, set_kvHop, e']
  · rw [pointsTo_congr (land_kv KB c (tgt c i) o o' size inb inb' hs hs' s' hq hq' h1 ho hd fd), hr, set_kvHop, e']

/-- The same between two rectangles of the scale scratch. -/
theorem hop_sc (K : GSem nD τ sig → ℕ) (c : Dev nD) (i : Fin 12) (l : List (Fin 12)) (S S' : Finset S4x2x16x1x512.Idx) (q : PosShare TreeShare)
    {n : Dev nD} {o o' size : Fin 5 → ℕ} {inb inb' hs hs'} {s' : Shape} {hq hq'} {sS sem : DmaSem sig}
    {hsc hsrc hdst hsem} {k : PUnit → Prog (TpuEff nD τ sig (Elt F) Λ₀ .tc) PUnit} {Q : PUnit → sProp 𝕄}
    (hn : n = tgt c i) (hS : sS = sendS i) (hV : sem = recvS i)
    (hN : (scHop o' size inb' hs' s' hq').view.amount (.dma sem) = cr i)
    (e : (Rect.unit (s := S4x2x16x1x512) o size inb).set = S) (e' : (Rect.unit (s := S4x2x16x1x512) o' size inb').set = S')
    (h1 : size 0 = 1) (ho : ∀ a, a ≠ 0 → o a = o' a) (hd : slotOf c (o 0) = slotOf (tgt c i) (o' 0))
    (hp : sendPay KB SB c i = scPts SB c S q) (hl : landAny (F := F) (tgt c i) i = scAny (tgt c i) S')
    (hr : recvPay KB SB (tgt c i) i = scPts SB (tgt c i) S' fullShare) :
    iprop(ctx KB SB K c ∗ ready c i ∗ scPts SB c S q ∗ place (tgt c i) i ∗ owesX c (debt c (i :: l)))
      ⊢ iprop(((flying c i ∗ owesX c (debt c l)) -∗ WP c (k ⟨⟩) Q)
        -∗ WP c (.op (.enqueueDma (scHop o size inb hs s' hq) (.remote (n : Thread nD τ) (scHop o' size inb' hs' s' hq') (.dma sS) hsc) (.dma sem)
          hsrc hdst hsem) k) Q) := by
  subst hn
  rw [← hp]
  refine hop_send K c _ i l rfl hS hV (q := q) (fs := SC SB c) hN ?_ ?_ fun fd => ?_
  · rw [hp]; show scPts SB c S q = _; rw [set_scHop, e]
  · rw [hl, set_scHop, e']
  · rw [pointsTo_congr (land_sc SB c (tgt c i) o o' size inb inb' hs hs' s' hq hq' h1 ho hd fd), hr, set_scHop, e']

/-- The landing of copy `i` on the device awaited, while it owes the copies of `l`, all at higher levels: what the copy
    brought, and the cell's counter back at zero. -/
theorem hop_recv (K : GSem nD τ sig → ℕ) (c : Dev nD) (i : Fin 12) (l : List (Fin 12)) (hlv : ∀ j ∈ l, lvR i < lvR j)
    {s s' : Shape} {e e' : EltTy} {src : Memref sig .tc .vmem s' e'} {dst : Memref sig .tc .vmem s e} {sem : DmaSem sig} (hV : sem = recvS i)
    {hsrc hdst} {k : PUnit → Prog (TpuEff nD τ sig (Elt F) Λ₀ .tc) PUnit} {Q : PUnit → sProp 𝕄}
    (hN : dst.view.dmaCredit = cr i) :
    iprop(ctx KB SB K c ∗ levAts L lv ∗ await c i ∗ owesX c (debt c l))
      ⊢ iprop(((recvPay KB SB c i ∗ semVal (recvCell c i) 0 ∗ owesX c (debt c l)) -∗ WP c (k ⟨⟩) Q)
        -∗ WP c (.op (.waitDma2 sem src dst hsrc hdst) k) Q) := by
  subst hV
  iintro ⟨#Hc, #Hlev, Haw, Hw⟩ Hk
  unfold await owesX
  icases Haw with ⟨HcV, HatV⟩
  icases Hw with ⟨%W, HO⟩
  ihave Hcc := (ctx_copy KB SB K c i) $$ Hc
  icases Hcc with ⟨-, #HIv, -, -, -⟩
  iapply (Rounds.wp_wait_rest_token 𝒱x ER (rd KB SB) (c : Thread nD τ) none (κ := K (recvCell c i))
      (wpE_waitDma2_eq 𝒱x (c : Thread nD τ) none Set.univ) (Set.mem_univ _) () (O := debt c l) (W := W) (R := 0) (m := 0) (T := ∅)
      ((Nat.zero_add _).trans (hN.trans (expect_recv KB SB c i).symm))) $$ [HcV HO HatV]
  · isplitr; · iexact HIv
    isplitl [HcV]; · rw [hN]; iexact HcV
    isplitl [HO]; · iexact HO
    isplitr
    · iapply (mayWait_debt c _ l (fun j hj => by rw [lv_recv]; exact hlv j hj)); iexact Hlev
    iexact HatV
  iintro ⟨HO, HatV, -, Hpay⟩
  ihave Hx := (Entails.of_eq (rest_recv KB SB c i)) $$ Hpay
  imod (close KB SB (K (recvCell c i)) (recvCell c i)) $$ [HatV] with Hv
  · isplitr; · iexact HIv
    iexact HatV
  iapply Hk
  isplitl [Hx]; · iexact Hx
  isplitl [Hv]; · iexact Hv
  iexists _; iexact HO

/-- Copy `i` of the device awaited at its source, owing nothing: the share comes back, and the cell's counter at zero. -/
theorem hop_sent (K : GSem nD τ sig → ℕ) (c : Dev nD) (i : Fin 12)
    {s s' : Shape} {e e' : EltTy} {src : Memref sig .tc .vmem s' e'} {dst : Memref sig .tc .vmem s e} {sem : DmaSem sig} (hS : sem = sendS i)
    {hsrc hdst} {k : PUnit → Prog (TpuEff nD τ sig (Elt F) Λ₀ .tc) PUnit} {Q : PUnit → sProp 𝕄}
    (hN : dst.view.dmaCredit = cr i) :
    iprop(ctx KB SB K c ∗ flying c i ∗ owesX c (debt c []))
      ⊢ iprop(((sendPay KB SB c i ∗ semVal (sendCell c i) 0 ∗ owesX c (debt c [])) -∗ WP c (k ⟨⟩) Q)
        -∗ WP c (.op (.waitDma2 sem src dst hsrc hdst) k) Q) := by
  subst hS
  iintro ⟨#Hc, Hfl, Hw⟩ Hk
  unfold flying owesX debt
  icases Hfl with ⟨HcS, HatS⟩
  icases Hw with ⟨%W, HO⟩
  ihave Hcc := (ctx_copy KB SB K c i) $$ Hc
  icases Hcc with ⟨#HIs, -, -, -, -⟩
  iapply (Rounds.wp_wait_rest_token 𝒱x ER (rd KB SB) (c : Thread nD τ) none (κ := K (sendCell c i))
      (wpE_waitDma2_eq 𝒱x (c : Thread nD τ) none Set.univ) (Set.mem_univ _) () (O := 0) (W := W) (R := 0) (m := 0) (T := ∅)
      ((Nat.zero_add _).trans (hN.trans (expect_send KB SB c i).symm))) $$ [HcS HO HatS]
  · isplitr; · iexact HIs
    isplitl [HcS]; · rw [hN]; iexact HcS
    isplitl [HO]; · iexact HO
    isplitr; · rw [MayWait_zero]; iempintro
    iexact HatS
  iintro ⟨HO, HatS, -, Hpay⟩
  ihave Hx := (Entails.of_eq (rest_send KB SB c i)) $$ Hpay
  imod (close KB SB (K (sendCell c i)) (sendCell c i)) $$ [HatS] with Hv
  · isplitr; · iexact HIs
    iexact HatS
  iapply Hk
  isplitl [Hx]; · iexact Hx
  isplitl [Hv]; · iexact Hv
  iexists _; iexact HO

end Cert.KernelIdeal.Talk

end
-- ==== Proof.Ideal.Accum.lean ====
/-
  One accumulation: four rows of queries against the keys and values of one slot, added to the numerator and the denominator.
-/
module

public import proofs.«01_k».proof.Proof.Ideal.Steps

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The staging buffers of the queries, keys, values and result. -/
abbrev qM : Memref sig .tc .vmem S16x512x64 .bf16 := Memref.whole cc0_stg0_0
abbrev kM : Memref sig .tc .vmem S16x64x512 .bf16 := Memref.whole cc0_stg1_0
abbrev vM : Memref sig .tc .vmem S16x64x512 .bf16 := Memref.whole cc0_stg2_0
abbrev oM : Memref sig .tc .vmem S16x512x64 .f32 := Memref.whole cc0_stg3_0

/-- 0 is an index of two: the keys' half. -/
theorem lt02 : 0 < 2 := by decide
/-- 1 is an index of two: the values' half. -/
theorem lt12 : 1 < 2 := by decide

/-! ## The rectangles of accumulation `g` on slot `s` -/

/-- Four rows from `4 * g` lie within an array of three axes that has them. -/
theorem inb3 {d0 d1 d2 n : ℕ} {g : ℕ} (h : 4 * g + 4 ≤ d0) (a : Fin 3) : (![4 * g, 0, 0] : Fin 3 → ℕ) a + (![4, d1, d2] : Fin 3 → ℕ) a ≤ (![d0, d1, d2] : Fin 3 → ℕ) a := by
  fin_cases a
  · exact h
  · exact (Nat.zero_add _).le
  · exact (Nat.zero_add _).le
/-- Group `g` of the sixteen rows lies within the queries. -/
theorem inbQ {g : ℕ} (hg : g < 4) (a : Fin 3) : (![4 * g, 0, 0] : Fin 3 → ℕ) a + S4x512x64.size a ≤ S16x512x64.size a :=
  inb3 (n := 0) (by omega) a
/-- Group `g` of the sixteen rows lies within the denominators. -/
theorem inbD {g : ℕ} (hg : g < 4) (a : Fin 3) : (![4 * g, 0, 0] : Fin 3 → ℕ) a + S4x512x1.size a ≤ S16x512x1.size a :=
  inb3 (n := 0) (by omega) a
/-- Group `g`'s codes, of keys or of values, lie within slot `s` of the code scratch. -/
theorem inbK {s g k : ℕ} (hs : s < 4) (hg : g < 4) (hk : k < 2) (a : Fin 6) :
    (![s, g / 2, k, 4 * (g % 2), 0, 0] : Fin 6 → ℕ) a + S1x1x1x4x64x512.size a ≤ S4x2x2x8x64x512.size a := by
  fin_cases a
  · show s + 1 ≤ 4; omega
  · show g / 2 + 1 ≤ 2; omega
  · show k + 1 ≤ 2; omega
  · show 4 * (g % 2) + 4 ≤ 8; omega
  · exact (Nat.zero_add _).le
  · exact (Nat.zero_add _).le
/-- Group `g`'s scales, of keys or of values, lie within slot `s` of the scale scratch. -/
theorem inbC {s g k : ℕ} (hs : s < 4) (hg : g < 4) (hk : k < 2) (a : Fin 5) :
    (![s, k, 4 * g, 0, 0] : Fin 5 → ℕ) a + S1x1x4x1x512.size a ≤ S4x2x16x1x512.size a := by
  fin_cases a
  · show s + 1 ≤ 4; omega
  · show k + 1 ≤ 2; omega
  · show 4 * g + 4 ≤ 16; omega
  · exact (Nat.zero_add _).le
  · exact (Nat.zero_add _).le

abbrev rQ {g : ℕ} (hg : g < 4) : Rect S16x512x64 := Rect.unit (s := S16x512x64) ![4 * g, 0, 0] S4x512x64.size (inbQ hg)
abbrev rD {g : ℕ} (hg : g < 4) : Rect S16x512x1 := Rect.unit (s := S16x512x1) ![4 * g, 0, 0] S4x512x1.size (inbD hg)
abbrev rK {s g k : ℕ} (hs : s < 4) (hg : g < 4) (hk : k < 2) : Rect S4x2x2x8x64x512 :=
  Rect.unit (s := S4x2x2x8x64x512) ![s, g / 2, k, 4 * (g % 2), 0, 0] S1x1x1x4x64x512.size (inbK hs hg hk)
abbrev rC {s g k : ℕ} (hs : s < 4) (hg : g < 4) (hk : k < 2) : Rect S4x2x16x1x512 :=
  Rect.unit (s := S4x2x16x1x512) ![s, k, 4 * g, 0, 0] S1x1x4x1x512.size (inbC hs hg hk)

/-! ## The accumulators -/

/-- What is added to the denominator, and to the numerator, of four rows: from their queries, the keys' codes and scales, the
    values' codes and scales, and what was accumulated. -/
def accD (q : Vec F S4x512x64 .bf16) (k : Vec F S1x1x1x4x64x512 .i8) (sk : Vec F S1x1x4x1x512 .f32) (d : Vec F S4x512x1 .f32) :
    FVec F S4x512x1 .f32 := k0_pay20 (k0_pay19 q k sk d)
def accA (q : Vec F S4x512x64 .bf16) (k v : Vec F S1x1x1x4x64x512 .i8) (sk sv : Vec F S1x1x4x1x512 .f32) (a : Vec F S4x512x64 .f32) :
    FVec F S4x512x64 .f32 := k0_pay21 (k0_pay17 v) (k0_pay18 q k sk) sv a

/-- The numerator's and the denominator's contents. -/
abbrev St (F : FTy → Type) (c : Dev nD) : Type := Buf (Elt F) ((c : Thread nD τ).loc cc0_scratch2) × Buf (Elt F) ((c : Thread nD τ).loc cc0_scratch3)

variable (KB : Dev nD → Codes F) (SB : Dev nD → Scales F)

/-- One accumulation over slot `s` of device `c` for rows `4g … 4g+3`. -/
def accStep (c : Dev nD) (Q : Buf (Elt F) ((c : Thread nD τ).loc cc0_stg0_0)) {s g : ℕ} (hs : s < 4) (hg : g < 4) (st : St F c) : St F c :=
  let q := (qM.access (rQ hg)).read (Elt F) Q
  let k := (kvM.access (rK hs hg lt02)).read (Elt F) (KV KB c)
  let v := (kvM.access (rK hs hg lt12)).read (Elt F) (KV KB c)
  let sk := (scM.access (rC hs hg lt02)).read (Elt F) (SC SB c)
  let sv := (scM.access (rC hs hg lt12)).read (Elt F) (SC SB c)
  ((accM.access (rQ hg)).write (Elt F) st.1 (accA q k v sk sv ((accM.access (rQ hg)).read (Elt F) st.1)) Finset.univ,
    (denM.access (rD hg)).write (Elt F) st.2 (accD q k sk ((denM.access (rD hg)).read (Elt F) st.2)) Finset.univ)

/-- Both accumulators, whole. -/
def accs (c : Dev nD) (st : St F c) : sProp 𝕄 :=
  iprop((((c : Thread nD τ).loc cc0_scratch2) ↦{fullShare} st.1) ∗ (((c : Thread nD τ).loc cc0_scratch3) ↦{fullShare} st.2))

variable {KB SB}

/-- The loads and stores of one slot and one group of rows run with shares of the slot's pieces, and leave the numerator and the denominator one step further. -/
theorem accum_step (c : Dev nD) (Q : Buf (Elt F) ((c : Thread nD τ).loc cc0_stg0_0)) {s g : ℕ} (hs : s < 4) (hg : g < 4) (qk qv q₁ q₂ : PosShare TreeShare) (st : St F c)
    {l0 l1 l2 l3 l4 l5 l6 l7 l8 x1 x2 y1 y2} {K : Prog (TpuEff nD τ sig (Elt F) Λ₀ .tc) PUnit} {P : PUnit → sProp 𝕄} :
    iprop((((c : Thread nD τ).loc cc0_stg0_0) ↦{fullShare} Q) ∗ kvPts KB c (kQ s (g / 2) 0) qk ∗ kvPts KB c (kQ s (g / 2) 1) qv
        ∗ scPts SB c (cQ s 0) q₁ ∗ scPts SB c (cQ s 1) q₂ ∗ accs c st)
      ⊢ iprop((((((c : Thread nD τ).loc cc0_stg0_0) ↦{fullShare} Q) ∗ kvPts KB c (kQ s (g / 2) 0) qk ∗ kvPts KB c (kQ s (g / 2) 1) qv
            ∗ scPts SB c (cQ s 0) q₁ ∗ scPts SB c (cQ s 1) q₂ ∗ accs c (accStep KB SB c Q hs hg st)) -∗ WP c K P)
        -∗ WP c (.op (.load qM (rQ hg).toLoadRect l0) fun q => .op (.load kvM (rK hs hg lt02).toLoadRect l1) fun k =>
            .op (.load kvM (rK hs hg lt12).toLoadRect l2) fun v => .op (.load scM (rC hs hg lt02).toLoadRect l3) fun sk =>
            .op (.load denM (rD hg).toLoadRect l4) fun d => .op (.load denM (rD hg).toLoadRect l5) fun _ =>
            .op (.store denM (rD hg) (accD q k sk d) Finset.univ x1 y1) fun _ =>
            .op (.load scM (rC hs hg lt12).toLoadRect l6) fun sv => .op (.load accM (rQ hg).toLoadRect l7) fun a =>
            .op (.load accM (rQ hg).toLoadRect l8) fun _ => .op (.store accM (rQ hg) (accA q k v sk sv a) Finset.univ x2 y2) fun _ => K) P) := by
  unfold accs accStep
  dsimp only
  iintro ⟨Hq, Hk, Hv, Hsk, Hsv, Ha, Hd⟩ HK
  iapply (wp_load_rect 𝒱x (c : Thread nD τ) none Set.univ (m := qM) (r := rQ hg) (S := Finset.univ) (Finset.subset_univ _)) $$ Hq
  iintro Hq
  iapply (wp_load_rect 𝒱x (c : Thread nD τ) none Set.univ (m := kvM) (r := rK hs hg lt02) (S := kQ s (g / 2) 0)
    (by rw [show (kvM.access (rK hs hg lt02)).set = _ from View.set_slice_whole _ _]; exact sub_kQ _ _ _ _ _)) $$ Hk
  iintro Hk
  iapply (wp_load_rect 𝒱x (c : Thread nD τ) none Set.univ (m := kvM) (r := rK hs hg lt12) (S := kQ s (g / 2) 1)
    (by rw [show (kvM.access (rK hs hg lt12)).set = _ from View.set_slice_whole _ _]; exact sub_kQ _ _ _ _ _)) $$ Hv
  iintro Hv
  iapply (wp_load_rect 𝒱x (c : Thread nD τ) none Set.univ (m := scM) (r := rC hs hg lt02) (S := cQ s 0)
    (by rw [show (scM.access (rC hs hg lt02)).set = _ from View.set_slice_whole _ _]; exact sub_cQ _ _ _ _)) $$ Hsk
  iintro Hsk
  iapply (wp_load_rect 𝒱x (c : Thread nD τ) none Set.univ (m := denM) (r := rD hg) (S := Finset.univ) (Finset.subset_univ _)) $$ Hd
  iintro Hd
  iapply (wp_load_rect 𝒱x (c : Thread nD τ) none Set.univ (m := denM) (r := rD hg) (S := Finset.univ) (Finset.subset_univ _)) $$ Hd
  iintro Hd
  iapply (wp_store 𝒱x (c : Thread nD τ) none Set.univ (m := denM) (r := rD hg) (S := Finset.univ) (Finset.subset_univ _)) $$ Hd
  iintro Hd
  iapply (wp_load_rect 𝒱x (c : Thread nD τ) none Set.univ (m := scM) (r := rC hs hg lt12) (S := cQ s 1)
    (by rw [show (scM.access (rC hs hg lt12)).set = _ from View.set_slice_whole _ _]; exact sub_cQ _ _ _ _)) $$ Hsv
  iintro Hsv
  iapply (wp_load_rect 𝒱x (c : Thread nD τ) none Set.univ (m := accM) (r := rQ hg) (S := Finset.univ) (Finset.subset_univ _)) $$ Ha
  iintro Ha
  iapply (wp_load_rect 𝒱x (c : Thread nD τ) none Set.univ (m := accM) (r := rQ hg) (S := Finset.univ) (Finset.subset_univ _)) $$ Ha
  iintro Ha
  iapply (wp_store 𝒱x (c : Thread nD τ) none Set.univ (m := accM) (r := rQ hg) (S := Finset.univ) (Finset.subset_univ _)) $$ Ha
  iintro Ha
  iapply HK
  isplitl [Hq]; · iexact Hq
  isplitl [Hk]; · iexact Hk
  isplitl [Hv]; · iexact Hv
  isplitl [Hsk]; · iexact Hsk
  isplitl [Hsv]; · iexact Hsv
  isplitl [Ha]; · iexact Ha
  iexact Hd

/-- A piece of slot 0's codes stored over any contents: it holds what the device's codes say. -/
theorem store_kv (c : Dev nD) (h k : ℕ) (hh : h < 2) (hk : k < 2) {inb} {w : Vec F S1x1x1x8x64x512 .i8} {l0 x1 y1}
    {K : Prog (TpuEff nD τ sig (Elt F) Λ₀ .tc) PUnit} {P : PUnit → sProp 𝕄}
    (hw : ∀ j : S1x1x1x8x64x512.Idx, w j = KB c ⟨h, hh⟩ ⟨k, hk⟩ (j 3) (j 4) (j 5)) :
    kvAny c (kQ 0 h k)
      ⊢ iprop((kvPts KB c (kQ 0 h k) fullShare -∗ WP c K P)
        -∗ WP c (.op (.load kvM (Rect.unit (s := S4x2x2x8x64x512) ![0, h, k, 0, 0, 0] S1x1x1x8x64x512.size inb).toLoadRect l0) fun _ =>
            .op (.store kvM (Rect.unit (s := S4x2x2x8x64x512) ![0, h, k, 0, 0, 0] S1x1x1x8x64x512.size inb) w Finset.univ x1 y1) fun _ => K) P) := by
  have hset : (kvM.access (Rect.unit (s := S4x2x2x8x64x512) ![0, h, k, 0, 0, 0] S1x1x1x8x64x512.size inb)).set = kQ 0 h k :=
    (View.set_slice_whole _ _).trans (set_kQ 0 h k inb)
  iintro ⟨%f, H⟩ HK
  iapply (wp_load_rect 𝒱x (c : Thread nD τ) none Set.univ (m := kvM)
    (r := Rect.unit (s := S4x2x2x8x64x512) ![0, h, k, 0, 0, 0] S1x1x1x8x64x512.size inb) (S := kQ 0 h k) hset.le) $$ H
  iintro H
  iapply (wp_store 𝒱x (c : Thread nD τ) none Set.univ (m := kvM)
    (r := Rect.unit (s := S4x2x2x8x64x512) ![0, h, k, 0, 0, 0] S1x1x1x8x64x512.size inb) (S := kQ 0 h k) hset.le) $$ H
  iintro H
  iapply HK
  iapply (Entails.of_eq (pointsTo_congr (fun i hi => ?_))) $$ H
  rw [← hset] at hi
  obtain ⟨j, -, rfl⟩ := Finset.mem_map.mp hi
  rw [View.write_emb_of_mem _ _ (Finset.mem_univ j)]
  refine Eq.trans (hw j) ?_
  have e (a : Fin 6) : (((kvM.access (Rect.unit (s := S4x2x2x8x64x512) ![0, h, k, 0, 0, 0] S1x1x1x8x64x512.size inb)).emb j : S4x2x2x8x64x512.Idx) a).val
    = (![0, h, k, 0, 0, 0] : Fin 6 → ℕ) a + 1 * (j a).val := rfl
  unfold KV
  have u0 : (j 0).val < 1 := (j 0).isLt
  have u1 : (j 1).val < 1 := (j 1).isLt
  have u2 : (j 2).val < 1 := (j 2).isLt
  have e0 := e 0
  rw [show (![0, h, k, 0, 0, 0] : Fin 6 → ℕ) 0 + 1 * (j 0).val = 0 from by show 0 + 1 * _ = 0; omega] at e0
  rw [e0]
  have e1 : (⟨h, hh⟩ : Fin 2) = ((kvM.access (Rect.unit (s := S4x2x2x8x64x512) ![0, h, k, 0, 0, 0] S1x1x1x8x64x512.size inb)).emb j : S4x2x2x8x64x512.Idx) 1 :=
    Fin.ext (by rw [e]; show h = h + 1 * _; omega)
  have e2 : (⟨k, hk⟩ : Fin 2) = ((kvM.access (Rect.unit (s := S4x2x2x8x64x512) ![0, h, k, 0, 0, 0] S1x1x1x8x64x512.size inb)).emb j : S4x2x2x8x64x512.Idx) 2 :=
    Fin.ext (by rw [e]; show k = k + 1 * _; omega)
  have e3 : j 3 = ((kvM.access (Rect.unit (s := S4x2x2x8x64x512) ![0, h, k, 0, 0, 0] S1x1x1x8x64x512.size inb)).emb j : S4x2x2x8x64x512.Idx) 3 :=
    Fin.ext (by rw [e]; show _ = 0 + 1 * _; omega)
  have e4 : j 4 = ((kvM.access (Rect.unit (s := S4x2x2x8x64x512) ![0, h, k, 0, 0, 0] S1x1x1x8x64x512.size inb)).emb j : S4x2x2x8x64x512.Idx) 4 :=
    Fin.ext (by rw [e]; show _ = 0 + 1 * _; omega)
  have e5 : j 5 = ((kvM.access (Rect.unit (s := S4x2x2x8x64x512) ![0, h, k, 0, 0, 0] S1x1x1x8x64x512.size inb)).emb j : S4x2x2x8x64x512.Idx) 5 :=
    Fin.ext (by rw [e]; show _ = 0 + 1 * _; omega)
  rw [e1, e2, e3, e4, e5]
  rfl

/-- A piece of slot 0's scales stored over any contents. -/
theorem store_sc (c : Dev nD) (k : ℕ) (hk : k < 2) {inb} {w : Vec F S1x1x16x1x512 .f32} {l0 x1 y1}
    {K : Prog (TpuEff nD τ sig (Elt F) Λ₀ .tc) PUnit} {P : PUnit → sProp 𝕄}
    (hw : ∀ j : S1x1x16x1x512.Idx, w j = SB c ⟨k, hk⟩ (j 2) (j 4)) :
    scAny c (cQ 0 k)
      ⊢ iprop((scPts SB c (cQ 0 k) fullShare -∗ WP c K P)
        -∗ WP c (.op (.load scM (Rect.unit (s := S4x2x16x1x512) ![0, k, 0, 0, 0] S1x1x16x1x512.size inb).toLoadRect l0) fun _ =>
            .op (.store scM (Rect.unit (s := S4x2x16x1x512) ![0, k, 0, 0, 0] S1x1x16x1x512.size inb) w Finset.univ x1 y1) fun _ => K) P) := by
  have hset : (scM.access (Rect.unit (s := S4x2x16x1x512) ![0, k, 0, 0, 0] S1x1x16x1x512.size inb)).set = cQ 0 k :=
    (View.set_slice_whole _ _).trans (set_cQ 0 k inb)
  iintro ⟨%f, H⟩ HK
  iapply (wp_load_rect 𝒱x (c : Thread nD τ) none Set.univ (m := scM)
    (r := Rect.unit (s := S4x2x16x1x512) ![0, k, 0, 0, 0] S1x1x16x1x512.size inb) (S := cQ 0 k) hset.le) $$ H
  iintro H
  iapply (wp_store 𝒱x (c : Thread nD τ) none Set.univ (m := scM)
    (r := Rect.unit (s := S4x2x16x1x512) ![0, k, 0, 0, 0] S1x1x16x1x512.size inb) (S := cQ 0 k) hset.le) $$ H
  iintro H
  iapply HK
  iapply (Entails.of_eq (pointsTo_congr (fun i hi => ?_))) $$ H
  rw [← hset] at hi
  obtain ⟨j, -, rfl⟩ := Finset.mem_map.mp hi
  rw [View.write_emb_of_mem _ _ (Finset.mem_univ j)]
  refine Eq.trans (hw j) ?_
  have e (a : Fin 5) : (((scM.access (Rect.unit (s := S4x2x16x1x512) ![0, k, 0, 0, 0] S1x1x16x1x512.size inb)).emb j : S4x2x16x1x512.Idx) a).val
    = (![0, k, 0, 0, 0] : Fin 5 → ℕ) a + 1 * (j a).val := rfl
  unfold SC
  have u0 : (j 0).val < 1 := (j 0).isLt
  have u1 : (j 1).val < 1 := (j 1).isLt
  have e0 := e 0
  rw [show (![0, k, 0, 0, 0] : Fin 5 → ℕ) 0 + 1 * (j 0).val = 0 from by show 0 + 1 * _ = 0; omega] at e0
  rw [e0]
  have e1 : (⟨k, hk⟩ : Fin 2) = ((scM.access (Rect.unit (s := S4x2x16x1x512) ![0, k, 0, 0, 0] S1x1x16x1x512.size inb)).emb j : S4x2x16x1x512.Idx) 1 :=
    Fin.ext (by rw [e]; show k = k + 1 * _; omega)
  have e2 : j 2 = ((scM.access (Rect.unit (s := S4x2x16x1x512) ![0, k, 0, 0, 0] S1x1x16x1x512.size inb)).emb j : S4x2x16x1x512.Idx) 2 :=
    Fin.ext (by rw [e]; show _ = 0 + 1 * _; omega)
  have e4 : j 4 = ((scM.access (Rect.unit (s := S4x2x16x1x512) ![0, k, 0, 0, 0] S1x1x16x1x512.size inb)).emb j : S4x2x16x1x512.Idx) 4 :=
    Fin.ext (by rw [e]; show _ = 0 + 1 * _; omega)
  rw [e1, e2, e4]
  rfl

end Cert.KernelIdeal.Talk

end
-- ==== Proof.Ideal.Split.lean ====
/-
  The exchanged scratch arrays cut into the pieces the copies write and the pieces a device stores, and the shares lent to copies.
-/
module

public import proofs.«01_k».proof.Proof.Ideal.Accum

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cuts -/

/-- The piece an element of the code scratch is in: 0–7 are written by the copies of the same numbers, the others are slot 0's. -/
def kvNo (i : S4x2x2x8x64x512.Idx) : ℕ :=
  if (i 0).val = 0 then 8 + 2 * (i 1).val + (i 2).val else if (i 0).val = 1 then (i 1).val else if (i 0).val = 2 then 2 + (i 1).val
    else 4 + 2 * (i 2).val + (i 1).val
def kvCut : Fin 12 → Finset S4x2x2x8x64x512.Idx :=
  ![kH 1 0, kH 1 1, kH 2 0, kH 2 1, kQ 3 0 0, kQ 3 1 0, kQ 3 0 1, kQ 3 1 1, kQ 0 0 0, kQ 0 0 1, kQ 0 1 0, kQ 0 1 1]
/-- An element is in piece `t` of the code scratch when its number is `t`. -/
theorem mem_kvCut (t : Fin 12) (i : S4x2x2x8x64x512.Idx) : i ∈ kvCut t ↔ kvNo i = t.val := by
  have h0 : (i 0).val < 4 := (i 0).isLt
  have h1 : (i 1).val < 2 := (i 1).isLt
  have h2 : (i 2).val < 2 := (i 2).isLt
  unfold kvNo
  fin_cases t <;> simp only [kvCut, kH, kQ, Fin.zero_eta, Fin.mk_one, Fin.reduceFinMk, Matrix.cons_val, Finset.mem_filter, Finset.mem_univ, true_and] <;> split_ifs <;> omega
/-- The twelve pieces cover the code scratch. -/
theorem kv_cover : Finset.univ.biUnion kvCut = (Finset.univ : Finset S4x2x2x8x64x512.Idx) := by
  ext i
  have h0 : (i 0).val < 4 := (i 0).isLt
  have h1 : (i 1).val < 2 := (i 1).isLt
  have h2 : (i 2).val < 2 := (i 2).isLt
  have h : kvNo i < 12 := by unfold kvNo; split_ifs <;> omega
  simp only [Finset.mem_univ, Finset.mem_biUnion, true_and, iff_true]
  exact ⟨⟨kvNo i, h⟩, (mem_kvCut _ i).mpr rfl⟩
/-- The pieces of the code scratch have no element in common. -/
theorem kv_disj (t t' : Fin 12) (h : t ≠ t') : Disjoint (kvCut t) (kvCut t') := Finset.disjoint_left.mpr fun i hi hi' =>
  h (Fin.ext (((mem_kvCut t i).mp hi).symm.trans ((mem_kvCut t' i).mp hi')))
/-- The whole code scratch is held as its twelve pieces. -/
theorem kv_cut (c : Dev nD) (q : PosShare TreeShare) (f : Buf (Elt F) ((c : Thread nD τ).loc cc0_scratch0)) :
    (((c : Thread nD τ).loc cc0_scratch0) ↦{q} f : sProp 𝕄) = bigSep Finset.univ fun t => ((c : Thread nD τ).loc cc0_scratch0) ↦[kvCut t]{q} f :=
  (congrArg (fun S : Finset S4x2x2x8x64x512.Idx => (((c : Thread nD τ).loc cc0_scratch0) ↦[S]{q} f : sProp 𝕄)) kv_cover.symm).trans
    (pointsTo_biUnion (ℓ := (c : Thread nD τ).loc cc0_scratch0) Finset.univ kvCut fun t _ t' _ h => kv_disj t t' h)

/-- The piece an element of the scale scratch is in: 0–3 are written by copies 8–11, the others are slot 0's. -/
def scNo (i : S4x2x16x1x512.Idx) : ℕ :=
  if (i 0).val = 0 then 4 + (i 1).val else if (i 0).val < 3 then (i 0).val - 1 else 2 + (i 1).val
def scCut : Fin 6 → Finset S4x2x16x1x512.Idx := ![cS 1, cS 2, cQ 3 0, cQ 3 1, cQ 0 0, cQ 0 1]
/-- An element is in piece `t` of the scale scratch when its number is `t`. -/
theorem mem_scCut (t : Fin 6) (i : S4x2x16x1x512.Idx) : i ∈ scCut t ↔ scNo i = t.val := by
  have h0 : (i 0).val < 4 := (i 0).isLt
  have h1 : (i 1).val < 2 := (i 1).isLt
  unfold scNo
  fin_cases t <;> simp only [scCut, cS, cQ, Fin.zero_eta, Fin.mk_one, Fin.reduceFinMk, Matrix.cons_val, Finset.mem_filter, Finset.mem_univ, true_and] <;> split_ifs <;> omega
/-- The six pieces cover the scale scratch. -/
theorem sc_cover : Finset.univ.biUnion scCut = (Finset.univ : Finset S4x2x16x1x512.Idx) := by
  ext i
  have h0 : (i 0).val < 4 := (i 0).isLt
  have h1 : (i 1).val < 2 := (i 1).isLt
  have h : scNo i < 6 := by unfold scNo; split_ifs <;> omega
  simp only [Finset.mem_univ, Finset.mem_biUnion, true_and, iff_true]
  exact ⟨⟨scNo i, h⟩, (mem_scCut _ i).mpr rfl⟩
/-- The pieces of the scale scratch have no element in common. -/
theorem sc_disj (t t' : Fin 6) (h : t ≠ t') : Disjoint (scCut t) (scCut t') := Finset.disjoint_left.mpr fun i hi hi' =>
  h (Fin.ext (((mem_scCut t i).mp hi).symm.trans ((mem_scCut t' i).mp hi')))
/-- The whole scale scratch is held as its six pieces. -/
theorem sc_cut (c : Dev nD) (q : PosShare TreeShare) (f : Buf (Elt F) ((c : Thread nD τ).loc cc0_scratch1)) :
    (((c : Thread nD τ).loc cc0_scratch1) ↦{q} f : sProp 𝕄) = bigSep Finset.univ fun t => ((c : Thread nD τ).loc cc0_scratch1) ↦[scCut t]{q} f :=
  (congrArg (fun S : Finset S4x2x16x1x512.Idx => (((c : Thread nD τ).loc cc0_scratch1) ↦[S]{q} f : sProp 𝕄)) sc_cover.symm).trans
    (pointsTo_biUnion (ℓ := (c : Thread nD τ).loc cc0_scratch1) Finset.univ scCut fun t _ t' _ h => sc_disj t t' h)

/-- A family over the twelve copies, one by one. -/
theorem all12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
/-- A family over six is its six members. -/
theorem all6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Both scratch arrays at any contents: slot 0's pieces, and the places the copies write. -/
theorem scratch_split (c : Dev nD) :
    iprop((∃ f, ((c : Thread nD τ).loc cc0_scratch0) ↦{fullShare} f) ∗ (∃ f, ((c : Thread nD τ).loc cc0_scratch1) ↦{fullShare} f))
      ⊢ (iprop(kvAny c (kQ 0 0 0) ∗ kvAny c (kQ 0 0 1) ∗ kvAny c (kQ 0 1 0) ∗ kvAny c (kQ 0 1 1) ∗ scAny c (cQ 0 0) ∗ scAny c (cQ 0 1)
        ∗ bigSep Finset.univ (landAny c)) : sProp 𝕄) := by
  rw [all12]
  iintro ⟨⟨%f, Hk⟩, ⟨%g, Hs⟩⟩
  ihave Hk := (Entails.of_eq ((kv_cut c fullShare f).trans (all12 _))) $$ Hk
  ihave Hs := (Entails.of_eq ((sc_cut c fullShare g).trans (all6 _))) $$ Hs
  icases Hk with ⟨K0, K1, K2, K3, K4, K5, K6, K7, K8, K9, K10, K11⟩
  icases Hs with ⟨S0, S1, S2, S3, S4, S5⟩
  isplitl [K8]; · iexists f; iexact K8
  isplitl [K9]; · iexists f; iexact K9
  isplitl [K10]; · iexists f; iexact K10
  isplitl [K11]; · iexists f; iexact K11
  isplitl [S4]; · iexists g; iexact S4
  isplitl [S5]; · iexists g; iexact S5
  isplitl [K0]; · iapply (kvAny_of c (kH 1 0) f (P := landAny c 0) rfl); iexact K0
  isplitl [K1]; · iapply (kvAny_of c (kH 1 1) f (P := landAny c 1) rfl); iexact K1
  isplitl [K2]; · iapply (kvAny_of c (kH 2 0) f (P := landAny c 2) rfl); iexact K2
  isplitl [K3]; · iapply (kvAny_of c (kH 2 1) f (P := landAny c 3) rfl); iexact K3
  isplitl [K4]; · iapply (kvAny_of c (kQ 3 0 0) f (P := landAny c 4) rfl); iexact K4
  isplitl [K5]; · iapply (kvAny_of c (kQ 3 1 0) f (P := landAny c 5) rfl); iexact K5
  isplitl [K6]; · iapply (kvAny_of c (kQ 3 0 1) f (P := landAny c 6) rfl); iexact K6
  isplitl [K7]; · iapply (kvAny_of c (kQ 3 1 1) f (P := landAny c 7) rfl); iexact K7
  isplitl [S0]; · iapply (scAny_of c (cS 1) g (P := landAny c 8) rfl); iexact S0
  isplitl [S1]; · iapply (scAny_of c (cS 2) g (P := landAny c 9) rfl); iexact S1
  isplitl [S2]; · iapply (scAny_of c (cQ 3 0) g (P := landAny c 10) rfl); iexact S2
  iapply (scAny_of c (cQ 3 1) g (P := landAny c 11) rfl); iexact S3

section Lend
variable {KB : Dev nD → Codes F} {SB : Dev nD → Scales F}

/-- The pieces of both scratch arrays, each at what it should hold, are the arrays. -/
theorem scratch_join (c : Dev nD) :
    iprop((kvPts KB c (kH 1 0) fullShare ∗ kvPts KB c (kH 1 1) fullShare ∗ kvPts KB c (kH 2 0) fullShare ∗ kvPts KB c (kH 2 1) fullShare
          ∗ kvPts KB c (kQ 3 0 0) fullShare ∗ kvPts KB c (kQ 3 1 0) fullShare ∗ kvPts KB c (kQ 3 0 1) fullShare ∗ kvPts KB c (kQ 3 1 1) fullShare
          ∗ kvPts KB c (kQ 0 0 0) fullShare ∗ kvPts KB c (kQ 0 0 1) fullShare ∗ kvPts KB c (kQ 0 1 0) fullShare ∗ kvPts KB c (kQ 0 1 1) fullShare)
        ∗ (scPts SB c (cS 1) fullShare ∗ scPts SB c (cS 2) fullShare ∗ scPts SB c (cQ 3 0) fullShare ∗ scPts SB c (cQ 3 1) fullShare
          ∗ scPts SB c (cQ 0 0) fullShare ∗ scPts SB c (cQ 0 1) fullShare))
      ⊢ (iprop((∃ f, ((c : Thread nD τ).loc cc0_scratch0) ↦{fullShare} f) ∗ (∃ f, ((c : Thread nD τ).loc cc0_scratch1) ↦{fullShare} f)) : sProp 𝕄) := by
  iintro ⟨Hk, Hs⟩
  isplitl [Hk]
  · iexists KV KB c
    iapply (Entails.of_eq ((kv_cut c fullShare (KV KB c)).trans (all12 _)).symm)
    iexact Hk
  · iexists SC SB c
    iapply (Entails.of_eq ((sc_cut c fullShare (SC SB c)).trans (all6 _)).symm)
    iexact Hs

/-- Half `h` of slot 0: a device keeps half of the share of its keys and of its values, and lends a quarter of the half to the
    copy to the right and a quarter to the copy to the left. -/
theorem lend_kv0 (c : Dev nD) (h : ℕ) : iprop(kvPts KB c (kQ 0 h 0) fullShare ∗ kvPts KB c (kQ 0 h 1) fullShare)
    ⊣⊢ iprop((kvPts KB c (kQ 0 h 0) qKeep ∗ kvPts KB c (kQ 0 h 1) qKeep) ∗ kvPts KB c (kH 0 h) qRt ∗ kvPts KB c (kH 0 h) qLf) := by
  constructor
  · iintro ⟨H0, H1⟩
    ihave H := (kvPts_quarters KB c 0 h fullShare).2 $$ [H0 H1]
    · isplitl [H0]; · iexact H0
      iexact H1
    ihave H := (kvPts_share KB c (kH 0 h) fullShare).1 $$ H
    icases H with ⟨Hl, Hr⟩
    isplitl [Hl]
    · iapply (kvPts_quarters KB c 0 h qKeep).1; iexact Hl
    · iapply (kvPts_share KB c (kH 0 h) qLend).1; iexact Hr
  · iintro ⟨Hl, Hr⟩
    ihave Hl := (kvPts_quarters KB c 0 h qKeep).2 $$ Hl
    ihave Hr := (kvPts_share KB c (kH 0 h) qLend).2 $$ Hr
    iapply (kvPts_quarters KB c 0 h fullShare).1
    iapply (kvPts_share KB c (kH 0 h) fullShare).2
    isplitl [Hl]; · iexact Hl
    iexact Hr

/-- Slot 0's scales are a share that is kept and a share for each of the two copies that send them. -/
theorem lend_sc0 (c : Dev nD) : iprop(scPts SB c (cQ 0 0) fullShare ∗ scPts SB c (cQ 0 1) fullShare)
    ⊣⊢ iprop((scPts SB c (cQ 0 0) qKeep ∗ scPts SB c (cQ 0 1) qKeep) ∗ scPts SB c (cS 0) qRt ∗ scPts SB c (cS 0) qLf) := by
  constructor
  · iintro ⟨H0, H1⟩
    ihave H := (scPts_quarters SB c 0 fullShare).2 $$ [H0 H1]
    · isplitl [H0]; · iexact H0
      iexact H1
    ihave H := (scPts_share SB c (cS 0) fullShare).1 $$ H
    icases H with ⟨Hl, Hr⟩
    isplitl [Hl]
    · iapply (scPts_quarters SB c 0 qKeep).1; iexact Hl
    · iapply (scPts_share SB c (cS 0) qLend).1; iexact Hr
  · iintro ⟨Hl, Hr⟩
    ihave Hl := (scPts_quarters SB c 0 qKeep).2 $$ Hl
    ihave Hr := (scPts_share SB c (cS 0) qLend).2 $$ Hr
    iapply (scPts_quarters SB c 0 fullShare).1
    iapply (scPts_share SB c (cS 0) fullShare).2
    isplitl [Hl]; · iexact Hl
    iexact Hr

/-- Two quarters, of which half of the share of one is lent on: of the keys' (slot 1), of the values' (slot 2). -/
theorem lend_kv1 (c : Dev nD) (s h : ℕ) : kvPts KB c (kH s h) fullShare
    ⊣⊢ iprop(kvPts KB c (kQ s h 0) qKeep ∗ kvPts KB c (kQ s h 0) qLend ∗ kvPts KB c (kQ s h 1) fullShare) := by
  constructor
  · iintro H
    ihave H := (kvPts_quarters KB c s h fullShare).1 $$ H
    icases H with ⟨H0, H1⟩
    ihave H0 := (kvPts_share KB c (kQ s h 0) fullShare).1 $$ H0
    icases H0 with ⟨Hl, Hr⟩
    isplitl [Hl]; · iexact Hl
    isplitl [Hr]; · iexact Hr
    iexact H1
  · iintro ⟨Hl, Hr, H1⟩
    iapply (kvPts_quarters KB c s h fullShare).2
    isplitl [Hl Hr]
    · iapply (kvPts_share KB c (kQ s h 0) fullShare).2
      isplitl [Hl]; · iexact Hl
      iexact Hr
    · iexact H1
/-- Of half a slot the values' quarter is split in a share that is kept and one that is lent to the copy that takes it on. -/
theorem lend_kv2 (c : Dev nD) (s h : ℕ) : kvPts KB c (kH s h) fullShare
    ⊣⊢ iprop(kvPts KB c (kQ s h 0) fullShare ∗ kvPts KB c (kQ s h 1) qKeep ∗ kvPts KB c (kQ s h 1) qLend) := by
  constructor
  · iintro H
    ihave H := (kvPts_quarters KB c s h fullShare).1 $$ H
    icases H with ⟨H0, H1⟩
    isplitl [H0]; · iexact H0
    iapply (kvPts_share KB c (kQ s h 1) fullShare).1; iexact H1
  · iintro ⟨H0, H1⟩
    ihave H1 := (kvPts_share KB c (kQ s h 1) fullShare).2 $$ H1
    iapply (kvPts_quarters KB c s h fullShare).2
    isplitl [H0]; · iexact H0
    iexact H1
/-- Of a slot's scales the keys' are split in a share that is kept and one that is lent. -/
theorem lend_sc1 (c : Dev nD) (s : ℕ) : scPts SB c (cS s) fullShare
    ⊣⊢ iprop(scPts SB c (cQ s 0) qKeep ∗ scPts SB c (cQ s 0) qLend ∗ scPts SB c (cQ s 1) fullShare) := by
  constructor
  · iintro H
    ihave H := (scPts_quarters SB c s fullShare).1 $$ H
    icases H with ⟨H0, H1⟩
    ihave H0 := (scPts_share SB c (cQ s 0) fullShare).1 $$ H0
    icases H0 with ⟨Hl, Hr⟩
    isplitl [Hl]; · iexact Hl
    isplitl [Hr]; · iexact Hr
    iexact H1
  · iintro ⟨Hl, Hr, H1⟩
    iapply (scPts_quarters SB c s fullShare).2
    isplitl [Hl Hr]
    · iapply (scPts_share SB c (cQ s 0) fullShare).2
      isplitl [Hl]; · iexact Hl
      iexact Hr
    · iexact H1
/-- Of a slot's scales the values' are split in a share that is kept and one that is lent. -/
theorem lend_sc2 (c : Dev nD) (s : ℕ) : scPts SB c (cS s) fullShare
    ⊣⊢ iprop(scPts SB c (cQ s 0) fullShare ∗ scPts SB c (cQ s 1) qKeep ∗ scPts SB c (cQ s 1) qLend) := by
  constructor
  · iintro H
    ihave H := (scPts_quarters SB c s fullShare).1 $$ H
    icases H with ⟨H0, H1⟩
    isplitl [H0]; · iexact H0
    iapply (scPts_share SB c (cQ s 1) fullShare).1; iexact H1
  · iintro ⟨H0, H1⟩
    ihave H1 := (scPts_share SB c (cQ s 1) fullShare).2 $$ H1
    iapply (scPts_quarters SB c s fullShare).2
    isplitl [H0]; · iexact H0
    iexact H1

end Lend

end Cert.KernelIdeal.Talk

end
-- ==== Proof.Ideal.Entry.lean ====
/-
  The entry barrier: each neighbour handed the places its copies write, and both neighbours awaited.
-/
module

public import proofs.«01_k».proof.Proof.Ideal.Split

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable {KB : Dev nD → Codes F} {SB : Dev nD → Scales F}

/-- The place a copy writes, with its cells opened, is what a device hands to the neighbour that copy comes from. -/
theorem place_of (c : Dev nD) (i : Fin 12) :
    iprop((reached ER (sendCell c i) 0 ∗ reached ER (recvCell c i) 0) ∗ landAny (F := F) c i) ⊢ (place c i : sProp 𝕄) := by
  unfold place
  iintro ⟨⟨-, R⟩, H⟩
  isplitl [H]; · iexact H
  iexact R

/-- The places a device hands over, by the neighbour they go to. -/
theorem places_split (K : GSem nD τ sig → ℕ) (c : Dev nD) :
    iprop(ctx KB SB K c ∗ bigSep Finset.univ (landAny (F := F) c))
      ⊢ (iprop(barPay (lf c) true ∗ barPay (rt c) false) : sProp 𝕄) := by
  unfold barPay
  rw [rt_lf, lf_rt]
  unfold ctx
  iintro ⟨⟨-, #G⟩, H⟩
  ihave H := (show iprop((bigSep Finset.univ fun i : Fin 12 => iprop(reached ER (sendCell c i) 0 ∗ reached ER (recvCell c i) 0)) ∗ bigSep Finset.univ (landAny (F := F) c))
      ⊢ (bigSep Finset.univ (place (F := F) c) : sProp 𝕄) from
    (Entails.of_eq (bigSep_sep _ _ _).symm).trans (bigSep_mono fun i _ => place_of c i)) $$ [H]
  · isplitr; · iexact G
    iexact H
  ihave H := (Entails.of_eq (all12 _)) $$ H
  icases H with ⟨H0, H1, H2, H3, H4, H5, H6, H7, H8, H9, H10, H11⟩
  isplitl [H0 H1 H4 H5 H8 H10]
  · isplitl [H0]; · iexact H0
    isplitl [H1]; · iexact H1
    isplitl [H4]; · iexact H4
    isplitl [H5]; · iexact H5
    isplitl [H8]; · iexact H8
    iexact H10
  · isplitl [H2]; · iexact H2
    isplitl [H3]; · iexact H3
    isplitl [H6]; · iexact H6
    isplitl [H7]; · iexact H7
    isplitl [H9]; · iexact H9
    iexact H11

/-- The places a device is handed are those its own copies write. -/
theorem places_join (c : Dev nD) :
    (iprop(barPay (F := F) c true ∗ barPay c false) : sProp 𝕄) ⊢ bigSep Finset.univ fun i => place (F := F) (tgt c i) i := by
  rw [all12]
  unfold barPay
  iintro ⟨⟨H0, H1, H4, H5, H8, H10⟩, ⟨H2, H3, H6, H7, H9, H11⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- What a device holds for the barrier: its place and credit on its own, the duties it pays on its neighbours'. -/
def barReady (c : Dev nD) : sProp 𝕄 :=
  iprop(atPos ER (barCell c) 0 ∅ 0 ∗ cred (tallyAt (barCell c) () 2)
    ∗ reached ER (barCell (lf c)) 0 ∗ reached ER (barCell (rt c)) 0
    ∗ dutyTok ER (barCell (lf c)) 0 true ∗ dutyTok ER (barCell (rt c)) 0 false)

/-- The barrier: a device signals both neighbours, giving each the places it writes here, and waits for both; it then has the places its own copies write, and owes only its copies. -/
theorem barrier_step (K : GSem nD τ sig → ℕ) (c d₁ d₂ : Dev nD) (h₁ : d₁ = lf c) (h₂ : d₂ = rt c)
    {k : Prog (TpuEff nD τ sig (Elt F) Λ₀ .tc) PUnit} {Q : PUnit → sProp 𝕄} :
    iprop(ctx KB SB K c ∗ levAts L lv ∗ barReady c ∗ bigSep Finset.univ (landAny (F := F) c) ∗ owesX c (O₀ c))
      ⊢ iprop((((bigSep Finset.univ fun i => place (F := F) (tgt c i) i) ∗ semVal (barCell c) 0 ∗ owesX c (debt c order)) -∗ WP c k Q)
        -∗ WP c (.op (.semSignal (d₁ : Thread nD τ) barrier0 (1#32).toInt) fun _ => .op (.semSignal (d₂ : Thread nD τ) barrier0 (1#32).toInt) fun _ =>
            .op (.semWait barrier0 (2#32).toInt) fun _ => k) Q) := by
  subst h₁ h₂
  rw [show (1#32).toInt = ((1 : ℕ) : ℤ) from by decide, show (2#32).toInt = ((2 : ℕ) : ℤ) from by decide]
  unfold barReady owesX
  iintro ⟨#Hc, #Hlev, ⟨Hat, Hcr, #Rl, #Rr, Tl, Tr⟩, Hland, ⟨%W, HO⟩⟩ Hk
  ihave Hp := (places_split K c) $$ [Hland]
  · isplitr; · iexact Hc
    iexact Hland
  icases Hp with ⟨Pl, Pr⟩
  ihave Pl := (Entails.of_eq (payload_bar KB SB (lf c) true).symm) $$ Pl
  ihave Pr := (Entails.of_eq (payload_bar KB SB (rt c) false).symm) $$ Pr
  ihave Hi := (show ctx KB SB K c ⊢ iprop(cellInv ER (rd KB SB) (K (barCell c)) (barCell c)
    ∗ cellInv ER (rd KB SB) (K (barCell (lf c))) (barCell (lf c))
    ∗ cellInv ER (rd KB SB) (K (barCell (rt c))) (barCell (rt c))) from by
      unfold ctx invs; iintro ⟨⟨H1, H2, H3, -⟩, -⟩
      isplitl [H1]; · iexact H1
      isplitl [H2]; · iexact H2
      iexact H3) $$ Hc
  icases Hi with ⟨#I0, #Il, #Ir⟩
  iapply (Rounds.wp_signal 𝒱x ER (rd KB SB) (c : Thread nD τ) none (dst := (lf c : Thread nD τ)) (sem := barrier0) (r := 0) (d := true)
      (κ := K (barCell (lf c))) (by rw [duties_bar]; decide) (amount_bar KB SB (lf c) true) () (debt c order + tallyAt (barCell (rt c)) () 1) rfl (W := W))
    $$ [HO Tl Pl]
  · isplitr; · iexact Il
    isplitl [HO]; · iexact HO
    isplitl [Tl]; · iexact Tl
    isplitl [Pl]; · iexact Pl
    iexact Rl
  iintro HO
  iapply (Rounds.wp_signal 𝒱x ER (rd KB SB) (c : Thread nD τ) none (dst := (rt c : Thread nD τ)) (sem := barrier0) (r := 0) (d := false)
      (κ := K (barCell (rt c))) (by rw [duties_bar]; decide) (amount_bar KB SB (rt c) false) () (debt c order) rfl (W := W))
    $$ [HO Tr Pr]
  · isplitr; · iexact Ir
    isplitl [HO]; · iexact HO
    isplitl [Tr]; · iexact Tr
    isplitl [Pr]; · iexact Pr
    iexact Rr
  iintro HO
  iapply (Rounds.wp_wait_rest_token 𝒱x ER (rd KB SB) (c : Thread nD τ) none (κ := K (barCell c))
      (wpE_semWait_eq 𝒱x (c : Thread nD τ) none Set.univ) (Set.mem_univ _) () (O := debt c order) (W := W) (R := 0) (m := 0) (T := ∅)
      ((Nat.zero_add _).trans (expect_bar KB SB c).symm)) $$ [Hcr HO Hat]
  · isplitr; · iexact I0
    isplitl [Hcr]; · iexact Hcr
    isplitl [HO]; · iexact HO
    isplitr
    · iapply (mayWait_debt c _ order (fun j hj => by rw [lv_bar]; exact lvR_pos j)); iexact Hlev
    iexact Hat
  iintro ⟨HO, Hat, -, Hpay⟩
  ihave Hx := (Entails.of_eq (rest_bar KB SB c)) $$ Hpay
  ihave Hx := (places_join c) $$ Hx
  imod (close KB SB (K (barCell c)) (barCell c)) $$ [Hat] with Hv
  · isplitr; · iexact I0
    iexact Hat
  iapply Hk
  isplitl [Hx]; · iexact Hx
  isplitl [Hv]; · iexact Hv
  iexists _; iexact HO

end Cert.KernelIdeal.Talk

end
-- ==== Proof.Ideal.Contents.lean ====
/-
  What the exchange carries as the devices compute it, the result of the accumulations, and loads and stores of whole buffers.
-/
module

public import proofs.«01_k».proof.Proof.Ideal.Entry
public import Idealize.ShloMosaic.Lib.ValueIdxCore
public import Idealize.ShloMosaic.Lib.ValueIdxRank6

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

/-! ## What the devices' arguments say -/

section Contents
variable (Kd Vd : Dev nD → Vec F S16x64x512 .bf16)

/-- A device's codes and scales, as it computes them of its keys and values. -/
def codes (d : Dev nD) : Codes F := fun h k r f p =>
  match k, h with
  | 0, 0 => k0_pay7 (k0_pay6 (Kd d)) (ix6 0 0 0 r f p)
  | 0, 1 => k0_pay8 (k0_pay5 (Kd d)) (ix6 0 0 0 r f p)
  | 1, 0 => k0_pay13 (Vd d) (ix6 0 0 0 r f p)
  | 1, 1 => k0_pay15 (k0_pay14 (Vd d)) (ix6 0 0 0 r f p)
def scls (d : Dev nD) : Scales F := fun k r p =>
  match k with
  | 0 => k0_pay9 (k0_pay4 (Kd d)) (ix5 0 0 r 0 p)
  | 1 => k0_pay16 (k0_pay11 (Vd d)) (ix5 0 0 r 0 p)

/-- A block of codes is read by its last three coordinates: the others are 0. -/
theorem idx_row6 (w : Vec F S1x1x1x8x64x512 .i8) (j : S1x1x1x8x64x512.Idx) : w j = w (ix6 0 0 0 (j 3) (j 4) (j 5)) := by
  refine congrArg w ((eq_ix6 (n0 := 1) (n1 := 1) (n2 := 1) (n3 := 8) (n4 := 64) (n5 := 512) j).trans ?_)
  have h0 : j 0 = (0 : Fin 1) := Subsingleton.elim (α := Fin 1) _ _
  have h1 : j 1 = (0 : Fin 1) := Subsingleton.elim (α := Fin 1) _ _
  have h2 : j 2 = (0 : Fin 1) := Subsingleton.elim (α := Fin 1) _ _
  rw [h0, h1, h2]; rfl
/-- A block of scales is read by its row and its key: the other coordinates are 0. -/
theorem idx_row5 (w : Vec F S1x1x16x1x512 .f32) (j : S1x1x16x1x512.Idx) : w j = w (ix5 0 0 (j 2) 0 (j 4)) := by
  refine congrArg w ((eq_ix5 (n0 := 1) (n1 := 1) (n2 := 16) (n3 := 1) (n4 := 512) j).trans ?_)
  have h0 : j 0 = (0 : Fin 1) := Subsingleton.elim (α := Fin 1) _ _
  have h1 : j 1 = (0 : Fin 1) := Subsingleton.elim (α := Fin 1) _ _
  have h3 : j 3 = (0 : Fin 1) := Subsingleton.elim (α := Fin 1) _ _
  rw [h0, h1, h3]; rfl

/-- The accumulations in the order a device makes them, by slot and group of four rows. -/
def steps : List (Fin 4 × Fin 4) :=
  [(0, 0), (0, 1), (0, 2), (0, 3), (1, 0), (1, 1), (2, 0), (2, 1), (1, 2), (1, 3), (2, 2), (2, 3), (3, 0), (3, 1), (3, 2), (3, 3)]
/-- The accumulators after every slot, and the result stored. -/
def final (c : Dev nD) (Q : Buf (Elt F) ((c : Thread nD τ).loc cc0_stg0_0)) : St F c :=
  steps.foldl (fun st x => accStep (codes Kd Vd) (scls Kd Vd) c Q x.1.isLt x.2.isLt st) (k0_pay1, k0_pay2)
def out (c : Dev nD) (Q : Buf (Elt F) ((c : Thread nD τ).loc cc0_stg0_0)) : Vec F S16x512x64 .f32 :=
  k0_pay97 (final Kd Vd c Q).1 (final Kd Vd c Q).2

end Contents

/-! ## Whole buffers -/

/-- A load of a rectangle gives what the rectangle reads of the contents, and leaves the array as it was. -/
theorem load_all (c : Dev nD) {s : Shape} {e : EltTy} (m : Memref sig .tc .vmem s e) (r : Rect s) {q : PosShare TreeShare}
    (f : Buf (Elt F) (m.view.loc (c : Thread nD τ))) {f'} (hr : (m.access r).read (Elt F) f = f') {l0}
    {k : _ → Prog (TpuEff nD τ sig (Elt F) Λ₀ .tc) PUnit} {P : PUnit → sProp 𝕄} :
    ((m.view.loc (c : Thread nD τ)) ↦{q} f : sProp 𝕄) ⊢ iprop((((m.view.loc (c : Thread nD τ)) ↦{q} f) -∗ WP c (k f') P)
      -∗ WP c (.op (.load m r.toLoadRect l0) k) P) := by
  subst hr
  iintro H HK
  iapply (wp_load_rect 𝒱x (c : Thread nD τ) none Set.univ (m := m) (r := r) (S := Finset.univ) (Finset.subset_univ _)) $$ H
  iexact HK

/-- A load and a store that overwrites everything leave the array at the stored contents, whatever it held. -/
theorem store_all (c : Dev nD) {s : Shape} {e : EltTy} (m : Memref sig .tc .vmem s e) (r : Rect s) {w}
    (w' : Buf (Elt F) (m.view.loc (c : Thread nD τ))) (hw : ∀ f, (m.access r).write (Elt F) f w Finset.univ = w') {l0 x1 y1}
    {K : Prog (TpuEff nD τ sig (Elt F) Λ₀ .tc) PUnit} {P : PUnit → sProp 𝕄} :
    iprop(∃ f, (m.view.loc (c : Thread nD τ)) ↦{fullShare} f) ⊢ (iprop((((m.view.loc (c : Thread nD τ)) ↦{fullShare} w') -∗ WP c K P)
      -∗ WP c (.op (.load m r.toLoadRect l0) fun _ => .op (.store m r w Finset.univ x1 y1) fun _ => K) P) : sProp 𝕄) := by
  iintro ⟨%f, H⟩ HK
  iapply (wp_load_rect 𝒱x (c : Thread nD τ) none Set.univ (m := m) (r := r) (S := Finset.univ) (Finset.subset_univ _)) $$ H
  iintro H
  iapply (wp_store 𝒱x (c : Thread nD τ) none Set.univ (m := m) (r := r) (S := Finset.univ) (Finset.subset_univ _)) $$ H
  rw [hw f]
  iexact HK

/-- The device's own number read. -/
theorem device_step (c : Dev nD) {k : Dev nD → Prog (TpuEff nD τ sig (Elt F) Λ₀ .tc) PUnit} {P : PUnit → sProp 𝕄} :
    WP c (k c) P ⊢ WP c (.op .deviceId k) P := Entails.of_eq (wp_deviceId 𝒱x (c : Thread nD τ) none Set.univ).symm

/-- The body's end. -/
theorem end_step (c : Dev nD) {P : PUnit → sProp 𝕄} :
    P ⟨⟩ ⊢ WP c (Pure.pure PUnit.unit : Prog (TpuEff nD τ sig (Elt F) Λ₀ .tc) PUnit) P := by
  show P ⟨⟩ ⊢ WP c (.ret ⟨⟩) P
  unfold WP; rw [wp_ret]
  iintro H
  imodintro
  iexact H

/-- The offsets written as three zeros are zero on every axis. -/
theorem zero3 : (![0, 0, 0] : Fin 3 → ℕ) = fun _ => 0 := by decide

end Cert.KernelIdeal.Talk

end
-- ==== Proof.Ideal.Body.lean ====
/-
  A device's whole body, once, at a symbolic device: from what it holds at launch to the result it stores.
-/
module

public import proofs.«01_k».proof.Proof.Ideal.Contents

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

/-- The body as the pipeline calls it. -/
abbrev body : Prog (TpuEff nD τ sig (Elt F) Λ₀ .tc) PUnit :=
  cc0__attn_body (F := F) qM (Memref.isWhole_whole _) kM (Memref.isWhole_whole _) vM (Memref.isWhole_whole _) oM (Memref.isWhole_whole _)
    kvM (Memref.isWhole_whole _) scM (Memref.isWhole_whole _) accM (Memref.isWhole_whole _) denM (Memref.isWhole_whole _) cc0_scratch4 cc0_scratch5

section Body
variable (Kd Vd : Dev nD → Vec F S16x64x512 .bf16)

/-- The four scratch arrays, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- What a device holds of the exchange before it starts, and after. -/
def before (K : GSem nD τ sig → ℕ) (c : Dev nD) : sProp 𝕄 :=
  iprop(ctx (codes Kd Vd) (scls Kd Vd) K c ∗ barReady c ∗ bigSep Finset.univ (ready (F := F) c) ∗ bigSep Finset.univ (await (F := F) c))
def after (c : Dev nD) : sProp 𝕄 :=
  iprop(semVal (barCell c) 0 ∗ bigSep Finset.univ fun i : Fin 12 => iprop(semVal (sendCell c i) 0 ∗ semVal (recvCell c i) 0))

/-- What copy `i` reads on `c` and what it writes on its target are of the same device. -/
theorem slot_near (c : Dev nD) (i : Fin 12) : slotOf c 0 = slotOf (tgt c i) (if toRight i then 1 else 2) := by revert c i; decide
/-- What copy `i` writes on its target, and what of slot 3 a second hop takes on, are of the same device. -/
theorem slot_far (c : Dev nD) (i : Fin 12) : slotOf c (if toRight i then 1 else 2) = slotOf (tgt c i) 3 := by revert c i; decide

set_option maxHeartbeats 2000000 in
/-- The body runs from what a device holds before the exchange: it pays what it owes, leaves the queries, keys and values as they were, and leaves `out` as the result. -/
theorem body_ok (K : GSem nD τ sig → ℕ) (c : Dev nD) (Q : Buf (Elt F) ((c : Thread nD τ).loc cc0_stg0_0)) {Ψ : PUnit → sProp 𝕄} :
    iprop(before Kd Vd K c ∗ levAts L lv ∗ owesX c (O₀ c)
        ∗ (((c : Thread nD τ).loc cc0_stg0_0) ↦{fullShare} Q) ∗ (((c : Thread nD τ).loc cc0_stg1_0) ↦{fullShare} (Kd c : Buf (Elt F) ((c : Thread nD τ).loc cc0_stg1_0)))
        ∗ (((c : Thread nD τ).loc cc0_stg2_0) ↦{fullShare} (Vd c : Buf (Elt F) ((c : Thread nD τ).loc cc0_stg2_0))) ∗ (∃ f, ((c : Thread nD τ).loc cc0_stg3_0) ↦{fullShare} f)
        ∗ scratch c)
      ⊢ (iprop(((after c ∗ owesX c (debt c []) ∗ (((c : Thread nD τ).loc cc0_stg0_0) ↦{fullShare} Q)
            ∗ (((c : Thread nD τ).loc cc0_stg1_0) ↦{fullShare} (Kd c : Buf (Elt F) ((c : Thread nD τ).loc cc0_stg1_0))) ∗ (((c : Thread nD τ).loc cc0_stg2_0) ↦{fullShare} (Vd c : Buf (Elt F) ((c : Thread nD τ).loc cc0_stg2_0)))
            ∗ (((c : Thread nD τ).loc cc0_stg3_0) ↦{fullShare} (out Kd Vd c Q : Buf (Elt F) ((c : Thread nD τ).loc cc0_stg3_0))) ∗ scratch c) -∗ Ψ ⟨⟩)
        -∗ WP c body Ψ) : sProp 𝕄) := by
  unfold body
  rw [cc0__attn_body_eq_skeleton]
  simp only [cc0__attn_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel,
    semSignalWord, semWaitWord, Prog.lift, Prog.bind_op, Prog.bind_ret, bind_assoc, pure_bind]
  unfold scratch before
  iintro ⟨⟨#Hc, Hbar, Hrdy, Haw⟩, #Hlev, Hw, Hq, Hk, Hv, Ho, ⟨Hkv, Hsc, Hacc, Hden⟩⟩ HΨ
  iapply (device_step c)
  ihave Hsp := (scratch_split c) $$ [Hkv Hsc]
  · isplitl [Hkv]; · iexact Hkv
    iexact Hsc
  icases Hsp with ⟨K00, K01, K10, K11, S0, S1, Hland⟩
  ihave Hrdy := (Entails.of_eq (all12 _)) $$ Hrdy
  icases Hrdy with ⟨R0, R1, R2, R3, R4, R5, R6, R7, R8, R9, R10, R11⟩
  ihave Haw := (Entails.of_eq (all12 _)) $$ Haw
  icases Haw with ⟨A0, A1, A2, A3, A4, A5, A6, A7, A8, A9, A10, A11⟩
  iapply (store_all c accM (Rect.unit (s := S16x512x64) ![0, 0, 0] S16x512x64.size inb_S16x512x64_S16x512x64_0_0_0) (k0_pay1 (F := F))
    (fun f => Memref.write_access_unit_zero_univ (Elt F) cc0_scratch2 zero3 _ f _)) $$ Hacc
  iintro Hacc
  iapply (store_all c denM (Rect.unit (s := S16x512x1) ![0, 0, 0] S16x512x1.size inb_S16x512x1_S16x512x1_0_0_0) (k0_pay2 (F := F))
    (fun f => Memref.write_access_unit_zero_univ (Elt F) cc0_scratch3 zero3 _ f _)) $$ Hden
  iintro Hden
  iapply (load_all c kM (Rect.unit (s := S16x64x512) ![0, 0, 0] S16x64x512.size inb_S16x64x512_S16x64x512_0_0_0) (Kd c) (Memref.read_access_unit_zero (Elt F) cc0_stg1_0 zero3 _ _)) $$ Hk
  iintro Hk
  iapply (store_kv (KB := codes Kd Vd) c 0 0 (by decide) (by decide) (fun j => idx_row6 _ j)) $$ K00
  iintro K00
  iapply (store_kv (KB := codes Kd Vd) c 1 0 (by decide) (by decide) (fun j => idx_row6 _ j)) $$ K10
  iintro K10
  iapply (store_sc (SB := scls Kd Vd) c 0 (by decide) (fun j => idx_row5 _ j)) $$ S0
  iintro S0
  iapply (load_all c vM (Rect.unit (s := S16x64x512) ![0, 0, 0] S16x64x512.size inb_S16x64x512_S16x64x512_0_0_0) (Vd c) (Memref.read_access_unit_zero (Elt F) cc0_stg2_0 zero3 _ _)) $$ Hv
  iintro Hv
  iapply (store_kv (KB := codes Kd Vd) c 0 1 (by decide) (by decide) (fun j => idx_row6 _ j)) $$ K01
  iintro K01
  iapply (store_kv (KB := codes Kd Vd) c 1 1 (by decide) (by decide) (fun j => idx_row6 _ j)) $$ K11
  iintro K11
  iapply (store_sc (SB := scls Kd Vd) c 1 (by decide) (fun j => idx_row5 _ j)) $$ S1
  iintro S1
  iapply (barrier_step (KB := codes Kd Vd) (SB := scls Kd Vd) K c _ _ (dev1 c) (dev2 c)) $$ [Hbar Hland Hw]
  · isplitr; · iexact Hc
    isplitr; · iexact Hlev
    isplitl [Hbar]; · iexact Hbar
    isplitl [Hland]; · iexact Hland
    iexact Hw
  iintro ⟨Hpl, Zb, Hw⟩
  ihave Hpl := (Entails.of_eq (all12 _)) $$ Hpl
  icases Hpl with ⟨P0, P1, P2, P3, P4, P5, P6, P7, P8, P9, P10, P11⟩
  ihave S0 := (lend_sc0 c).1 $$ [S0 S1]
  · isplitl [S0]; · iexact S0
    iexact S1
  icases S0 with ⟨⟨S00, S01⟩, S0r, S0l⟩
  ihave K0 := (lend_kv0 c 0).1 $$ [K00 K01]
  · isplitl [K00]; · iexact K00
    iexact K01
  icases K0 with ⟨⟨K000, K001⟩, K00r, K00l⟩
  ihave K1 := (lend_kv0 c 1).1 $$ [K10 K11]
  · isplitl [K10]; · iexact K10
    iexact K11
  icases K1 with ⟨⟨K010, K011⟩, K01r, K01l⟩
  iapply (hop_sc (KB := codes Kd Vd) (SB := scls Kd Vd) K c 8 [9, 0, 1, 2, 3, 10, 11, 4, 6, 5, 7] (cS 0) (cS 1) qRt (dev3 c) rfl rfl rfl (set_cS _ _) (set_cS _ _) rfl (by decide) (slot_near c 8) rfl rfl rfl) $$ [R8 S0r P8 Hw]
  · isplitr; · iexact Hc
    isplitl [R8]; · iexact R8
    isplitl [S0r]; · iexact S0r
    isplitl [P8]; · iexact P8
    iexact Hw
  iintro ⟨F8, Hw⟩
  iapply (hop_sc (KB := codes Kd Vd) (SB := scls Kd Vd) K c 9 [0, 1, 2, 3, 10, 11, 4, 6, 5, 7] (cS 0) (cS 2) qLf (dev4 c) rfl rfl rfl (set_cS _ _) (set_cS _ _) rfl (by decide) (slot_near c 9) rfl rfl rfl) $$ [R9 S0l P9 Hw]
  · isplitr; · iexact Hc
    isplitl [R9]; · iexact R9
    isplitl [S0l]; · iexact S0l
    isplitl [P9]; · iexact P9
    iexact Hw
  iintro ⟨F9, Hw⟩
  iapply (hop_kv (KB := codes Kd Vd) (SB := scls Kd Vd) K c 0 [1, 2, 3, 10, 11, 4, 6, 5, 7] (kH 0 0) (kH 1 0) qRt (dev5 c) rfl rfl rfl (set_kH _ _ _) (set_kH _ _ _) rfl (by decide) (slot_near c 0) rfl rfl rfl) $$ [R0 K00r P0 Hw]
  · isplitr; · iexact Hc
    isplitl [R0]; · iexact R0
    isplitl [K00r]; · iexact K00r
    isplitl [P0]; · iexact P0
    iexact Hw
  iintro ⟨F0, Hw⟩
  iapply (hop_kv (KB := codes Kd Vd) (SB := scls Kd Vd) K c 1 [2, 3, 10, 11, 4, 6, 5, 7] (kH 0 1) (kH 1 1) qRt (dev6 c) rfl rfl rfl (set_kH _ _ _) (set_kH _ _ _) rfl (by decide) (slot_near c 1) rfl rfl rfl) $$ [R1 K01r P1 Hw]
  · isplitr; · iexact Hc
    isplitl [R1]; · iexact R1
    isplitl [K01r]; · iexact K01r
    isplitl [P1]; · iexact P1
    iexact Hw
  iintro ⟨F1, Hw⟩
  iapply (hop_kv (KB := codes Kd Vd) (SB := scls Kd Vd) K c 2 [3, 10, 11, 4, 6, 5, 7] (kH 0 0) (kH 2 0) qLf (dev7 c) rfl rfl rfl (set_kH _ _ _) (set_kH _ _ _) rfl (by decide) (slot_near c 2) rfl rfl rfl) $$ [R2 K00l P2 Hw]
  · isplitr; · iexact Hc
    isplitl [R2]; · iexact R2
    isplitl [K00l]; · iexact K00l
    isplitl [P2]; · iexact P2
    iexact Hw
  iintro ⟨F2, Hw⟩
  iapply (hop_kv (KB := codes Kd Vd) (SB := scls Kd Vd) K c 3 [10, 11, 4, 6, 5, 7] (kH 0 1) (kH 2 1) qLf (dev8 c) rfl rfl rfl (set_kH _ _ _) (set_kH _ _ _) rfl (by decide) (slot_near c 3) rfl rfl rfl) $$ [R3 K01l P3 Hw]
  · isplitr; · iexact Hc
    isplitl [R3]; · iexact R3
    isplitl [K01l]; · iexact K01l
    isplitl [P3]; · iexact P3
    iexact Hw
  iintro ⟨F3, Hw⟩
  ihave Ha := (show iprop(((c : Thread nD τ).loc cc0_scratch2 ↦{fullShare} k0_pay1 (F := F)) ∗ ((c : Thread nD τ).loc cc0_scratch3 ↦{fullShare} k0_pay2 (F := F)))
    ⊢ accs (F := F) c (k0_pay1, k0_pay2) from Entails.of_eq rfl) $$ [Hacc Hden]
  · isplitl [Hacc]; · iexact Hacc
    iexact Hden
  iapply (accum_step (KB := codes Kd Vd) (SB := scls Kd Vd) c Q (s := 0) (g := 0) (by decide) (by decide) _ _ _ _ _) $$ [Hq K000 K001 S00 S01 Ha]
  · isplitl [Hq]; · iexact Hq
    isplitl [K000]; · iexact K000
    isplitl [K001]; · iexact K001
    isplitl [S00]; · iexact S00
    isplitl [S01]; · iexact S01
    iexact Ha
  iintro ⟨Hq, K000, K001, S00, S01, Ha⟩
  iapply (accum_step (KB := codes Kd Vd) (SB := scls Kd Vd) c Q (s := 0) (g := 1) (by decide) (by decide) _ _ _ _ _) $$ [Hq K000 K001 S00 S01 Ha]
  · isplitl [Hq]; · iexact Hq
    isplitl [K000]; · iexact K000
    isplitl [K001]; · iexact K001
    isplitl [S00]; · iexact S00
    isplitl [S01]; · iexact S01
    iexact Ha
  iintro ⟨Hq, K000, K001, S00, S01, Ha⟩
  iapply (accum_step (KB := codes Kd Vd) (SB := scls Kd Vd) c Q (s := 0) (g := 2) (by decide) (by decide) _ _ _ _ _) $$ [Hq K010 K011 S00 S01 Ha]
  · isplitl [Hq]; · iexact Hq
    isplitl [K010]; · iexact K010
    isplitl [K011]; · iexact K011
    isplitl [S00]; · iexact S00
    isplitl [S01]; · iexact S01
    iexact Ha
  iintro ⟨Hq, K010, K011, S00, S01, Ha⟩
  iapply (accum_step (KB := codes Kd Vd) (SB := scls Kd Vd) c Q (s := 0) (g := 3) (by decide) (by decide) _ _ _ _ _) $$ [Hq K010 K011 S00 S01 Ha]
  · isplitl [Hq]; · iexact Hq
    isplitl [K010]; · iexact K010
    isplitl [K011]; · iexact K011
    isplitl [S00]; · iexact S00
    isplitl [S01]; · iexact S01
    iexact Ha
  iintro ⟨Hq, K010, K011, S00, S01, Ha⟩
  iapply (hop_recv (KB := codes Kd Vd) (SB := scls Kd Vd) K c 8 [10, 11, 4, 6, 5, 7] (by decide) rfl rfl) $$ [A8 Hw]
  · isplitr; · iexact Hc
    isplitr; · iexact Hlev
    isplitl [A8]; · iexact A8
    iexact Hw
  iintro ⟨X8, Zr8, Hw⟩
  ihave X8 := (Entails.of_eq (show recvPay (codes Kd Vd) (scls Kd Vd) c 8 = scPts (scls Kd Vd) c (cS 1) fullShare from rfl)) $$ X8
  ihave X8 := (lend_sc1 (SB := scls Kd Vd) c 1).1 $$ X8
  icases X8 with ⟨S10, S10r, S11⟩
  iapply (hop_sc (KB := codes Kd Vd) (SB := scls Kd Vd) K c 10 [11, 4, 6, 5, 7] (cQ 1 0) (cQ 3 0) qLend (dev9 c) rfl rfl rfl (set_cQ _ _ _) (set_cQ _ _ _) rfl (by decide) (slot_far c 10) rfl rfl rfl) $$ [R10 S10r P10 Hw]
  · isplitr; · iexact Hc
    isplitl [R10]; · iexact R10
    isplitl [S10r]; · iexact S10r
    isplitl [P10]; · iexact P10
    iexact Hw
  iintro ⟨F10, Hw⟩
  iapply (hop_recv (KB := codes Kd Vd) (SB := scls Kd Vd) K c 9 [11, 4, 6, 5, 7] (by decide) rfl rfl) $$ [A9 Hw]
  · isplitr; · iexact Hc
    isplitr; · iexact Hlev
    isplitl [A9]; · iexact A9
    iexact Hw
  iintro ⟨X9, Zr9, Hw⟩
  ihave X9 := (Entails.of_eq (show recvPay (codes Kd Vd) (scls Kd Vd) c 9 = scPts (scls Kd Vd) c (cS 2) fullShare from rfl)) $$ X9
  ihave X9 := (lend_sc2 (SB := scls Kd Vd) c 2).1 $$ X9
  icases X9 with ⟨S20, S21, S21r⟩
  iapply (hop_sc (KB := codes Kd Vd) (SB := scls Kd Vd) K c 11 [4, 6, 5, 7] (cQ 2 1) (cQ 3 1) qLend (dev10 c) rfl rfl rfl (set_cQ _ _ _) (set_cQ _ _ _) rfl (by decide) (slot_far c 11) rfl rfl rfl) $$ [R11 S21r P11 Hw]
  · isplitr; · iexact Hc
    isplitl [R11]; · iexact R11
    isplitl [S21r]; · iexact S21r
    isplitl [P11]; · iexact P11
    iexact Hw
  iintro ⟨F11, Hw⟩
  iapply (hop_recv (KB := codes Kd Vd) (SB := scls Kd Vd) K c 0 [4, 6, 5, 7] (by decide) rfl rfl) $$ [A0 Hw]
  · isplitr; · iexact Hc
    isplitr; · iexact Hlev
    isplitl [A0]; · iexact A0
    iexact Hw
  iintro ⟨X0, Zr0, Hw⟩
  ihave X0 := (Entails.of_eq (show recvPay (codes Kd Vd) (scls Kd Vd) c 0 = kvPts (codes Kd Vd) c (kH 1 0) fullShare from rfl)) $$ X0
  ihave X0 := (lend_kv1 (KB := codes Kd Vd) c 1 0).1 $$ X0
  icases X0 with ⟨K100, K100r, K101⟩
  iapply (hop_kv (KB := codes Kd Vd) (SB := scls Kd Vd) K c 4 [6, 5, 7] (kQ 1 0 0) (kQ 3 0 0) qLend (dev11 c) rfl rfl rfl (set_kQ _ _ _ _) (set_kQ _ _ _ _) rfl (by decide) (slot_far c 4) rfl rfl rfl) $$ [R4 K100r P4 Hw]
  · isplitr; · iexact Hc
    isplitl [R4]; · iexact R4
    isplitl [K100r]; · iexact K100r
    isplitl [P4]; · iexact P4
    iexact Hw
  iintro ⟨F4, Hw⟩
  iapply (hop_recv (KB := codes Kd Vd) (SB := scls Kd Vd) K c 2 [6, 5, 7] (by decide) rfl rfl) $$ [A2 Hw]
  · isplitr; · iexact Hc
    isplitr; · iexact Hlev
    isplitl [A2]; · iexact A2
    iexact Hw
  iintro ⟨X2, Zr2, Hw⟩
  ihave X2 := (Entails.of_eq (show recvPay (codes Kd Vd) (scls Kd Vd) c 2 = kvPts (codes Kd Vd) c (kH 2 0) fullShare from rfl)) $$ X2
  ihave X2 := (lend_kv2 (KB := codes Kd Vd) c 2 0).1 $$ X2
  icases X2 with ⟨K200, K201, K201r⟩
  iapply (hop_kv (KB := codes Kd Vd) (SB := scls Kd Vd) K c 6 [5, 7] (kQ 2 0 1) (kQ 3 0 1) qLend (dev12 c) rfl rfl rfl (set_kQ _ _ _ _) (set_kQ _ _ _ _) rfl (by decide) (slot_far c 6) rfl rfl rfl) $$ [R6 K201r P6 Hw]
  · isplitr; · iexact Hc
    isplitl [R6]; · iexact R6
    isplitl [K201r]; · iexact K201r
    isplitl [P6]; · iexact P6
    iexact Hw
  iintro ⟨F6, Hw⟩
  iapply (accum_step (KB := codes Kd Vd) (SB := scls Kd Vd) c Q (s := 1) (g := 0) (by decide) (by decide) _ _ _ _ _) $$ [Hq K100 K101 S10 S11 Ha]
  · isplitl [Hq]; · iexact Hq
    isplitl [K100]; · iexact K100
    isplitl [K101]; · iexact K101
    isplitl [S10]; · iexact S10
    isplitl [S11]; · iexact S11
    iexact Ha
  iintro ⟨Hq, K100, K101, S10, S11, Ha⟩
  iapply (accum_step (KB := codes Kd Vd) (SB := scls Kd Vd) c Q (s := 1) (g := 1) (by decide) (by decide) _ _ _ _ _) $$ [Hq K100 K101 S10 S11 Ha]
  · isplitl [Hq]; · iexact Hq
    isplitl [K100]; · iexact K100
    isplitl [K101]; · iexact K101
    isplitl [S10]; · iexact S10
    isplitl [S11]; · iexact S11
    iexact Ha
  iintro ⟨Hq, K100, K101, S10, S11, Ha⟩
  iapply (accum_step (KB := codes Kd Vd) (SB := scls Kd Vd) c Q (s := 2) (g := 0) (by decide) (by decide) _ _ _ _ _) $$ [Hq K200 K201 S20 S21 Ha]
  · isplitl [Hq]; · iexact Hq
    isplitl [K200]; · iexact K200
    isplitl [K201]; · iexact K201
    isplitl [S20]; · iexact S20
    isplitl [S21]; · iexact S21
    iexact Ha
  iintro ⟨Hq, K200, K201, S20, S21, Ha⟩
  iapply (accum_step (KB := codes Kd Vd) (SB := scls Kd Vd) c Q (s := 2) (g := 1) (by decide) (by decide) _ _ _ _ _) $$ [Hq K200 K201 S20 S21 Ha]
  · isplitl [Hq]; · iexact Hq
    isplitl [K200]; · iexact K200
    isplitl [K201]; · iexact K201
    isplitl [S20]; · iexact S20
    isplitl [S21]; · iexact S21
    iexact Ha
  iintro ⟨Hq, K200, K201, S20, S21, Ha⟩
  iapply (hop_recv (KB := codes Kd Vd) (SB := scls Kd Vd) K c 1 [5, 7] (by decide) rfl rfl) $$ [A1 Hw]
  · isplitr; · iexact Hc
    isplitr; · iexact Hlev
    isplitl [A1]; · iexact A1
    iexact Hw
  iintro ⟨X1, Zr1, Hw⟩
  ihave X1 := (Entails.of_eq (show recvPay (codes Kd Vd) (scls Kd Vd) c 1 = kvPts (codes Kd Vd) c (kH 1 1) fullShare from rfl)) $$ X1
  ihave X1 := (lend_kv1 (KB := codes Kd Vd) c 1 1).1 $$ X1
  icases X1 with ⟨K110, K110r, K111⟩
  iapply (hop_kv (KB := codes Kd Vd) (SB := scls Kd Vd) K c 5 [7] (kQ 1 1 0) (kQ 3 1 0) qLend (dev13 c) rfl rfl rfl (set_kQ _ _ _ _) (set_kQ _ _ _ _) rfl (by decide) (slot_far c 5) rfl rfl rfl) $$ [R5 K110r P5 Hw]
  · isplitr; · iexact Hc
    isplitl [R5]; · iexact R5
    isplitl [K110r]; · iexact K110r
    isplitl [P5]; · iexact P5
    iexact Hw
  iintro ⟨F5, Hw⟩
  iapply (hop_recv (KB := codes Kd Vd) (SB := scls Kd Vd) K c 3 [7] (by decide) rfl rfl) $$ [A3 Hw]
  · isplitr; · iexact Hc
    isplitr; · iexact Hlev
    isplitl [A3]; · iexact A3
    iexact Hw
  iintro ⟨X3, Zr3, Hw⟩
  ihave X3 := (Entails.of_eq (show recvPay (codes Kd Vd) (scls Kd Vd) c 3 = kvPts (codes Kd Vd) c (kH 2 1) fullShare from rfl)) $$ X3
  ihave X3 := (lend_kv2 (KB := codes Kd Vd) c 2 1).1 $$ X3
  icases X3 with ⟨K210, K211, K211r⟩
  iapply (hop_kv (KB := codes Kd Vd) (SB := scls Kd Vd) K c 7 [] (kQ 2 1 1) (kQ 3 1 1) qLend (dev14 c) rfl rfl rfl (set_kQ _ _ _ _) (set_kQ _ _ _ _) rfl (by decide) (slot_far c 7) rfl rfl rfl) $$ [R7 K211r P7 Hw]
  · isplitr; · iexact Hc
    isplitl [R7]; · iexact R7
    isplitl [K211r]; · iexact K211r
    isplitl [P7]; · iexact P7
    iexact Hw
  iintro ⟨F7, Hw⟩
  iapply (accum_step (KB := codes Kd Vd) (SB := scls Kd Vd) c Q (s := 1) (g := 2) (by decide) (by decide) _ _ _ _ _) $$ [Hq K110 K111 S10 S11 Ha]
  · isplitl [Hq]; · iexact Hq
    isplitl [K110]; · iexact K110
    isplitl [K111]; · iexact K111
    isplitl [S10]; · iexact S10
    isplitl [S11]; · iexact S11
    iexact Ha
  iintro ⟨Hq, K110, K111, S10, S11, Ha⟩
  iapply (accum_step (KB := codes Kd Vd) (SB := scls Kd Vd) c Q (s := 1) (g := 3) (by decide) (by decide) _ _ _ _ _) $$ [Hq K110 K111 S10 S11 Ha]
  · isplitl [Hq]; · iexact Hq
    isplitl [K110]; · iexact K110
    isplitl [K111]; · iexact K111
    isplitl [S10]; · iexact S10
    isplitl [S11]; · iexact S11
    iexact Ha
  iintro ⟨Hq, K110, K111, S10, S11, Ha⟩
  iapply (accum_step (KB := codes Kd Vd) (SB := scls Kd Vd) c Q (s := 2) (g := 2) (by decide) (by decide) _ _ _ _ _) $$ [Hq K210 K211 S20 S21 Ha]
  · isplitl [Hq]; · iexact Hq
    isplitl [K210]; · iexact K210
    isplitl [K211]; · iexact K211
    isplitl [S20]; · iexact S20
    isplitl [S21]; · iexact S21
    iexact Ha
  iintro ⟨Hq, K210, K211, S20, S21, Ha⟩
  iapply (accum_step (KB := codes Kd Vd) (SB := scls Kd Vd) c Q (s := 2) (g := 3) (by decide) (by decide) _ _ _ _ _) $$ [Hq K210 K211 S20 S21 Ha]
  · isplitl [Hq]; · iexact Hq
    isplitl [K210]; · iexact K210
    isplitl [K211]; · iexact K211
    isplitl [S20]; · iexact S20
    isplitl [S21]; · iexact S21
    iexact Ha
  iintro ⟨Hq, K210, K211, S20, S21, Ha⟩
  iapply (hop_recv (KB := codes Kd Vd) (SB := scls Kd Vd) K c 10 [] (by decide) rfl rfl) $$ [A10 Hw]
  · isplitr; · iexact Hc
    isplitr; · iexact Hlev
    isplitl [A10]; · iexact A10
    iexact Hw
  iintro ⟨X10, Zr10, Hw⟩
  ihave X10 := (Entails.of_eq (show recvPay (codes Kd Vd) (scls Kd Vd) c 10 = scPts (scls Kd Vd) c (cQ 3 0) fullShare from rfl)) $$ X10
  iapply (hop_recv (KB := codes Kd Vd) (SB := scls Kd Vd) K c 11 [] (by decide) rfl rfl) $$ [A11 Hw]
  · isplitr; · iexact Hc
    isplitr; · iexact Hlev
    isplitl [A11]; · iexact A11
    iexact Hw
  iintro ⟨X11, Zr11, Hw⟩
  ihave X11 := (Entails.of_eq (show recvPay (codes Kd Vd) (scls Kd Vd) c 11 = scPts (scls Kd Vd) c (cQ 3 1) fullShare from rfl)) $$ X11
  iapply (hop_recv (KB := codes Kd Vd) (SB := scls Kd Vd) K c 4 [] (by decide) rfl rfl) $$ [A4 Hw]
  · isplitr; · iexact Hc
    isplitr; · iexact Hlev
    isplitl [A4]; · iexact A4
    iexact Hw
  iintro ⟨X4, Zr4, Hw⟩
  ihave X4 := (Entails.of_eq (show recvPay (codes Kd Vd) (scls Kd Vd) c 4 = kvPts (codes Kd Vd) c (kQ 3 0 0) fullShare from rfl)) $$ X4
  iapply (hop_recv (KB := codes Kd Vd) (SB := scls Kd Vd) K c 6 [] (by decide) rfl rfl) $$ [A6 Hw]
  · isplitr; · iexact Hc
    isplitr; · iexact Hlev
    isplitl [A6]; · iexact A6
    iexact Hw
  iintro ⟨X6, Zr6, Hw⟩
  ihave X6 := (Entails.of_eq (show recvPay (codes Kd Vd) (scls Kd Vd) c 6 = kvPts (codes Kd Vd) c (kQ 3 0 1) fullShare from rfl)) $$ X6
  iapply (accum_step (KB := codes Kd Vd) (SB := scls Kd Vd) c Q (s := 3) (g := 0) (by decide) (by decide) _ _ _ _ _) $$ [Hq X4 X6 X10 X11 Ha]
  · isplitl [Hq]; · iexact Hq
    isplitl [X4]; · iexact X4
    isplitl [X6]; · iexact X6
    isplitl [X10]; · iexact X10
    isplitl [X11]; · iexact X11
    iexact Ha
  iintro ⟨Hq, X4, X6, X10, X11, Ha⟩
  iapply (accum_step (KB := codes Kd Vd) (SB := scls Kd Vd) c Q (s := 3) (g := 1) (by decide) (by decide) _ _ _ _ _) $$ [Hq X4 X6 X10 X11 Ha]
  · isplitl [Hq]; · iexact Hq
    isplitl [X4]; · iexact X4
    isplitl [X6]; · iexact X6
    isplitl [X10]; · iexact X10
    isplitl [X11]; · iexact X11
    iexact Ha
  iintro ⟨Hq, X4, X6, X10, X11, Ha⟩
  iapply (hop_recv (KB := codes Kd Vd) (SB := scls Kd Vd) K c 5 [] (by decide) rfl rfl) $$ [A5 Hw]
  · isplitr; · iexact Hc
    isplitr; · iexact Hlev
    isplitl [A5]; · iexact A5
    iexact Hw
  iintro ⟨X5, Zr5, Hw⟩
  ihave X5 := (Entails.of_eq (show recvPay (codes Kd Vd) (scls Kd Vd) c 5 = kvPts (codes Kd Vd) c (kQ 3 1 0) fullShare from rfl)) $$ X5
  iapply (hop_recv (KB := codes Kd Vd) (SB := scls Kd Vd) K c 7 [] (by decide) rfl rfl) $$ [A7 Hw]
  · isplitr; · iexact Hc
    isplitr; · iexact Hlev
    isplitl [A7]; · iexact A7
    iexact Hw
  iintro ⟨X7, Zr7, Hw⟩
  ihave X7 := (Entails.of_eq (show recvPay (codes Kd Vd) (scls Kd Vd) c 7 = kvPts (codes Kd Vd) c (kQ 3 1 1) fullShare from rfl)) $$ X7
  iapply (accum_step (KB := codes Kd Vd) (SB := scls Kd Vd) c Q (s := 3) (g := 2) (by decide) (by decide) _ _ _ _ _) $$ [Hq X5 X7 X10 X11 Ha]
  · isplitl [Hq]; · iexact Hq
    isplitl [X5]; · iexact X5
    isplitl [X7]; · iexact X7
    isplitl [X10]; · iexact X10
    isplitl [X11]; · iexact X11
    iexact Ha
  iintro ⟨Hq, X5, X7, X10, X11, Ha⟩
  iapply (accum_step (KB := codes Kd Vd) (SB := scls Kd Vd) c Q (s := 3) (g := 3) (by decide) (by decide) _ _ _ _ _) $$ [Hq X5 X7 X10 X11 Ha]
  · isplitl [Hq]; · iexact Hq
    isplitl [X5]; · iexact X5
    isplitl [X7]; · iexact X7
    isplitl [X10]; · iexact X10
    isplitl [X11]; · iexact X11
    iexact Ha
  iintro ⟨Hq, X5, X7, X10, X11, Ha⟩
  iapply (hop_sent (KB := codes Kd Vd) (SB := scls Kd Vd) K c 0 rfl rfl) $$ [F0 Hw]
  · isplitr; · iexact Hc
    isplitl [F0]; · iexact F0
    iexact Hw
  iintro ⟨K00r, Zs0, Hw⟩
  ihave K00r := (Entails.of_eq (show sendPay (codes Kd Vd) (scls Kd Vd) c 0 = kvPts (codes Kd Vd) c (kH 0 0) qRt from rfl)) $$ K00r
  iapply (hop_sent (KB := codes Kd Vd) (SB := scls Kd Vd) K c 1 rfl rfl) $$ [F1 Hw]
  · isplitr; · iexact Hc
    isplitl [F1]; · iexact F1
    iexact Hw
  iintro ⟨K01r, Zs1, Hw⟩
  ihave K01r := (Entails.of_eq (show sendPay (codes Kd Vd) (scls Kd Vd) c 1 = kvPts (codes Kd Vd) c (kH 0 1) qRt from rfl)) $$ K01r
  iapply (hop_sent (KB := codes Kd Vd) (SB := scls Kd Vd) K c 2 rfl rfl) $$ [F2 Hw]
  · isplitr; · iexact Hc
    isplitl [F2]; · iexact F2
    iexact Hw
  iintro ⟨K00l, Zs2, Hw⟩
  ihave K00l := (Entails.of_eq (show sendPay (codes Kd Vd) (scls Kd Vd) c 2 = kvPts (codes Kd Vd) c (kH 0 0) qLf from rfl)) $$ K00l
  iapply (hop_sent (KB := codes Kd Vd) (SB := scls Kd Vd) K c 3 rfl rfl) $$ [F3 Hw]
  · isplitr; · iexact Hc
    isplitl [F3]; · iexact F3
    iexact Hw
  iintro ⟨K01l, Zs3, Hw⟩
  ihave K01l := (Entails.of_eq (show sendPay (codes Kd Vd) (scls Kd Vd) c 3 = kvPts (codes Kd Vd) c (kH 0 1) qLf from rfl)) $$ K01l
  iapply (hop_sent (KB := codes Kd Vd) (SB := scls Kd Vd) K c 4 rfl rfl) $$ [F4 Hw]
  · isplitr; · iexact Hc
    isplitl [F4]; · iexact F4
    iexact Hw
  iintro ⟨K100r, Zs4, Hw⟩
  ihave K100r := (Entails.of_eq (show sendPay (codes Kd Vd) (scls Kd Vd) c 4 = kvPts (codes Kd Vd) c (kQ 1 0 0) qLend from rfl)) $$ K100r
  iapply (hop_sent (KB := codes Kd Vd) (SB := scls Kd Vd) K c 5 rfl rfl) $$ [F5 Hw]
  · isplitr; · iexact Hc
    isplitl [F5]; · iexact F5
    iexact Hw
  iintro ⟨K110r, Zs5, Hw⟩
  ihave K110r := (Entails.of_eq (show sendPay (codes Kd Vd) (scls Kd Vd) c 5 = kvPts (codes Kd Vd) c (kQ 1 1 0) qLend from rfl)) $$ K110r
  iapply (hop_sent (KB := codes Kd Vd) (SB := scls Kd Vd) K c 6 rfl rfl) $$ [F6 Hw]
  · isplitr; · iexact Hc
    isplitl [F6]; · iexact F6
    iexact Hw
  iintro ⟨K201r, Zs6, Hw⟩
  ihave K201r := (Entails.of_eq (show sendPay (codes Kd Vd) (scls Kd Vd) c 6 = kvPts (codes Kd Vd) c (kQ 2 0 1) qLend from rfl)) $$ K201r
  iapply (hop_sent (KB := codes Kd Vd) (SB := scls Kd Vd) K c 7 rfl rfl) $$ [F7 Hw]
  · isplitr; · iexact Hc
    isplitl [F7]; · iexact F7
    iexact Hw
  iintro ⟨K211r, Zs7, Hw⟩
  ihave K211r := (Entails.of_eq (show sendPay (codes Kd Vd) (scls Kd Vd) c 7 = kvPts (codes Kd Vd) c (kQ 2 1 1) qLend from rfl)) $$ K211r
  iapply (hop_sent (KB := codes Kd Vd) (SB := scls Kd Vd) K c 8 rfl rfl) $$ [F8 Hw]
  · isplitr; · iexact Hc
    isplitl [F8]; · iexact F8
    iexact Hw
  iintro ⟨S0r, Zs8, Hw⟩
  ihave S0r := (Entails.of_eq (show sendPay (codes Kd Vd) (scls Kd Vd) c 8 = scPts (scls Kd Vd) c (cS 0) qRt from rfl)) $$ S0r
  iapply (hop_sent (KB := codes Kd Vd) (SB := scls Kd Vd) K c 9 rfl rfl) $$ [F9 Hw]
  · isplitr; · iexact Hc
    isplitl [F9]; · iexact F9
    iexact Hw
  iintro ⟨S0l, Zs9, Hw⟩
  ihave S0l := (Entails.of_eq (show sendPay (codes Kd Vd) (scls Kd Vd) c 9 = scPts (scls Kd Vd) c (cS 0) qLf from rfl)) $$ S0l
  iapply (hop_sent (KB := codes Kd Vd) (SB := scls Kd Vd) K c 10 rfl rfl) $$ [F10 Hw]
  · isplitr; · iexact Hc
    isplitl [F10]; · iexact F10
    iexact Hw
  iintro ⟨S10r, Zs10, Hw⟩
  ihave S10r := (Entails.of_eq (show sendPay (codes Kd Vd) (scls Kd Vd) c 10 = scPts (scls Kd Vd) c (cQ 1 0) qLend from rfl)) $$ S10r
  iapply (hop_sent (KB := codes Kd Vd) (SB := scls Kd Vd) K c 11 rfl rfl) $$ [F11 Hw]
  · isplitr; · iexact Hc
    isplitl [F11]; · iexact F11
    iexact Hw
  iintro ⟨S21r, Zs11, Hw⟩
  ihave S21r := (Entails.of_eq (show sendPay (codes Kd Vd) (scls Kd Vd) c 11 = scPts (scls Kd Vd) c (cQ 2 1) qLend from rfl)) $$ S21r
  unfold accs
  icases Ha with ⟨Hacc, Hden⟩
  iapply (load_all c accM (Rect.unit (s := S16x512x64) ![0, 0, 0] S16x512x64.size inb_S16x512x64_S16x512x64_0_0_0) _ (Memref.read_access_unit_zero (Elt F) cc0_scratch2 zero3 _ _)) $$ Hacc
  iintro Hacc
  iapply (load_all c denM (Rect.unit (s := S16x512x1) ![0, 0, 0] S16x512x1.size inb_S16x512x1_S16x512x1_0_0_0) _ (Memref.read_access_unit_zero (Elt F) cc0_scratch3 zero3 _ _)) $$ Hden
  iintro Hden
  iapply (store_all c oM (Rect.unit (s := S16x512x64) ![0, 0, 0] S16x512x64.size inb_S16x512x64_S16x512x64_0_0_0) (out Kd Vd c Q)
    (fun f => Memref.write_access_unit_zero_univ (Elt F) cc0_stg3_0 zero3 _ f _)) $$ Ho
  iintro Ho
  iapply (end_step c)
  ihave S0 := (lend_sc0 c).2 $$ [S00 S01 S0r S0l]
  · isplitl [S00 S01]
    · isplitl [S00]; · iexact S00
      iexact S01
    isplitl [S0r]; · iexact S0r
    iexact S0l
  icases S0 with ⟨S0, S1⟩
  ihave K0 := (lend_kv0 c 0).2 $$ [K000 K001 K00r K00l]
  · isplitl [K000 K001]
    · isplitl [K000]; · iexact K000
      iexact K001
    isplitl [K00r]; · iexact K00r
    iexact K00l
  icases K0 with ⟨K00, K01⟩
  ihave X0 := (lend_kv1 c 1 0).2 $$ [K100 K100r K101]
  · isplitl [K100]; · iexact K100
    isplitl [K100r]; · iexact K100r
    iexact K101
  ihave X2 := (lend_kv2 c 2 0).2 $$ [K200 K201 K201r]
  · isplitl [K200]; · iexact K200
    isplitl [K201]; · iexact K201
    iexact K201r
  ihave K1 := (lend_kv0 c 1).2 $$ [K010 K011 K01r K01l]
  · isplitl [K010 K011]
    · isplitl [K010]; · iexact K010
      iexact K011
    isplitl [K01r]; · iexact K01r
    iexact K01l
  icases K1 with ⟨K10, K11⟩
  ihave X1 := (lend_kv1 c 1 1).2 $$ [K110 K110r K111]
  · isplitl [K110]; · iexact K110
    isplitl [K110r]; · iexact K110r
    iexact K111
  ihave X3 := (lend_kv2 c 2 1).2 $$ [K210 K211 K211r]
  · isplitl [K210]; · iexact K210
    isplitl [K211]; · iexact K211
    iexact K211r
  ihave X8 := (lend_sc1 c 1).2 $$ [S10 S10r S11]
  · isplitl [S10]; · iexact S10
    isplitl [S10r]; · iexact S10r
    iexact S11
  ihave X9 := (lend_sc2 c 2).2 $$ [S20 S21 S21r]
  · isplitl [S20]; · iexact S20
    isplitl [S21]; · iexact S21
    iexact S21r
  ihave Hscr := (scratch_join (KB := codes Kd Vd) (SB := scls Kd Vd) c) $$ [X0 X1 X2 X3 X4 X5 X6 X7 K00 K01 K10 K11 X8 X9 X10 X11 S0 S1]
  · isplitl [X0 X1 X2 X3 X4 X5 X6 X7 K00 K01 K10 K11]
    · isplitl [X0]; · iexact X0
      isplitl [X1]; · iexact X1
      isplitl [X2]; · iexact X2
      isplitl [X3]; · iexact X3
      isplitl [X4]; · iexact X4
      isplitl [X5]; · iexact X5
      isplitl [X6]; · iexact X6
      isplitl [X7]; · iexact X7
      isplitl [K00]; · iexact K00
      isplitl [K01]; · iexact K01
      isplitl [K10]; · iexact K10
      iexact K11
    isplitl [X8]; · iexact X8
    isplitl [X9]; · iexact X9
    isplitl [X10]; · iexact X10
    isplitl [X11]; · iexact X11
    isplitl [S0]; · iexact S0
    iexact S1
  icases Hscr with ⟨Hkv, Hsc⟩
  iapply HΨ
  isplitl [Zb Zs0 Zr0 Zs1 Zr1 Zs2 Zr2 Zs3 Zr3 Zs4 Zr4 Zs5 Zr5 Zs6 Zr6 Zs7 Zr7 Zs8 Zr8 Zs9 Zr9 Zs10 Zr10 Zs11 Zr11]
  · unfold after
    rw [all12]
    isplitl [Zb]; · iexact Zb
    isplitl [Zs0 Zr0]
    · isplitl [Zs0]; · iexact Zs0
      iexact Zr0
    isplitl [Zs1 Zr1]
    · isplitl [Zs1]; · iexact Zs1
      iexact Zr1
    isplitl [Zs2 Zr2]
    · isplitl [Zs2]; · iexact Zs2
      iexact Zr2
    isplitl [Zs3 Zr3]
    · isplitl [Zs3]; · iexact Zs3
      iexact Zr3
    isplitl [Zs4 Zr4]
    · isplitl [Zs4]; · iexact Zs4
      iexact Zr4
    isplitl [Zs5 Zr5]
    · isplitl [Zs5]; · iexact Zs5
      iexact Zr5
    isplitl [Zs6 Zr6]
    · isplitl [Zs6]; · iexact Zs6
      iexact Zr6
    isplitl [Zs7 Zr7]
    · isplitl [Zs7]; · iexact Zs7
      iexact Zr7
    isplitl [Zs8 Zr8]
    · isplitl [Zs8]; · iexact Zs8
      iexact Zr8
    isplitl [Zs9 Zr9]
    · isplitl [Zs9]; · iexact Zs9
      iexact Zr9
    isplitl [Zs10 Zr10]
    · isplitl [Zs10]; · iexact Zs10
      iexact Zr10
    isplitl [Zs11]; · iexact Zs11
    iexact Zr11
  isplitl [Hw]; · iexact Hw
  isplitl [Hq]; · iexact Hq
  isplitl [Hk]; · iexact Hk
  isplitl [Hv]; · iexact Hv
  isplitl [Ho]; · iexact Ho
  isplitl [Hkv]; · iexact Hkv
  isplitl [Hsc]; · iexact Hsc
  isplitl [Hacc]; · iexists _; iexact Hacc
  iexists _; iexact Hden

end Body

end Cert.KernelIdeal.Talk

end
-- ==== Proof.Ideal.Region.lean ====
/-
  The pipeline around the body: what its windows stage, and its one body obligation.
-/
module

public import proofs.«01_k».proof.Proof.Ideal.Body

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the windows stage -/

/-- A device's queries, keys and values as its body finds them. -/
def Qd (c : Dev nD) : Vec F S16x512x64 .bf16 := iblk m c 0 t0_0
def Kd (c : Dev nD) : Vec F S16x64x512 .bf16 := iblk m c 1 t0_0
def Vd (c : Dev nD) : Vec F S16x64x512 .bf16 := iblk m c 2 t0_0
/-- What the body leaves as the result. -/
def res (c : Dev nD) : Vec F S16x512x64 .f32 := out (Kd m) (Vd m) c (Qd m c)

/-- Before the body: the exchange's holdings, the level facts, the scratch arrays and the generator register. -/
def Φ₀ (c : Dev nD) : sProp 𝕄 :=
  iprop((∃ K, before (Kd m) (Vd m) K c) ∗ levAts L lv ∗ scratch c ∗ ∃ r, prngReg c r)
/-- After it: every counter at zero. -/
def Φ₁ (c : Dev nD) : sProp 𝕄 := iprop(after c ∗ scratch (F := F) c ∗ ∃ r, prngReg c r)

/-- The one point of the pipeline. -/
def dat (c : Dev nD) : Dat τ (Elt F) Unit ℕ UU ℕ cfg0 c where
  A w := V m c (Pipeline.arrRef spec0 w)
  after w _ := match w with
    | ⟨0, _⟩ => Qd m c
    | ⟨1, _⟩ => Kd m c
    | ⟨2, _⟩ => Vd m c
    | ⟨3, _⟩ => res m c
    | ⟨_ + 4, h⟩ => absurd h (Nat.not_lt.2 (Nat.le_add_left _ _))
  Φ t := if t.val = 0 then Φ₀ m c else Φ₁ c
  q _ := fullShare
  owed t := if t.val = 0 then O₀ c else 0

/-- Before the body a device owes its barrier signals and its copies. -/
theorem owed_first (c : Dev nD) : (dat m c).owed t0_0.castSucc = O₀ c := rfl
/-- After the body it owes nothing. -/
theorem owed_last (c : Dev nD) : (dat m c).owed t0_0.succ = 0 := rfl

/-- Owning the whole of an array is holding it at its contents. -/
theorem owns_elim (c : Dev nD) (b : Ref sig .tc) (X : b.ty.Contents (Elt F)) :
    (owns (c : Thread nD τ) (Memref.whole b) fullShare X : sProp 𝕄) ⊢ (((c : Thread nD τ).loc b) ↦{fullShare} X) := by
  unfold owns
  simp only [Memref.view_whole, View.read_whole, View.set_whole]
  iintro ⟨%f, %h, H⟩
  subst h
  iexact H
/-- Holding an array at its contents is owning the whole of it. -/
theorem owns_intro (c : Dev nD) (b : Ref sig .tc) (X : b.ty.Contents (Elt F)) :
    (((c : Thread nD τ).loc b) ↦{fullShare} X) ⊢ (owns (c : Thread nD τ) (Memref.whole b) fullShare X : sProp 𝕄) := by
  unfold owns
  simp only [Memref.view_whole, View.read_whole, View.set_whole]
  iintro H
  iexists X
  isplitr; · ipureintro; rfl
  iexact H

/-- The body finds the device's queries in the first window. -/
theorem before_q (c : Dev nD) (d) : (dat m c).before 0 t0_0 d = Qd m c := by
  unfold Dat.before; rw [if_pos (fetch0_0 t0_0)]; rfl
/-- The body finds the device's keys in the second window. -/
theorem before_k (c : Dev nD) (d) : (dat m c).before 1 t0_0 d = Kd m c := by
  unfold Dat.before; rw [if_pos (fetch0_1 t0_0)]; rfl
/-- The body finds the device's values in the third window. -/
theorem before_v (c : Dev nD) (d) : (dat m c).before 2 t0_0 d = Vd m c := by
  unfold Dat.before; rw [if_pos (fetch0_2 t0_0)]; rfl

/-- What the region owes before the body is what the exchange starts with. -/
theorem owes_in (c : Dev nD) : ((dat m c).owesAt () t0_0.castSucc : sProp 𝕄) ⊢ owesX c (O₀ c) := by
  unfold Dat.owesAt Pipeline.owesWithin owesX
  rw [owed_first]
  iintro ⟨%W, -, HO⟩; iexists W; iexact HO
/-- With no copy left to start, the exchange owes what the region owes after the body. -/
theorem owes_out (c : Dev nD) : owesX c (debt c []) ⊢ ((dat m c).owesAt () t0_0.succ : sProp 𝕄) := by
  unfold Dat.owesAt Pipeline.owesWithin Dat.bound owesX
  rw [owed_last]
  iintro ⟨%W, HO⟩; iexists W
  isplitr; · ipureintro; exact fun _ _ => Or.inl trivial
  iexact HO

/-- The body obligation of the pipeline's one point is the body theorem. -/
theorem body_obligation (c : Dev nD) : BodyObligation (dat m c) (defs₀ (F := F)) 𝒱x () Set.univ := fun t => by
  obtain rfl := fin_N0 t
  rw [bigSep_W0, bigSep_W0]
  show iprop(Φ₀ m c ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d)))
    ⊢ WP c body fun _ => iprop(Φ₁ c ∗ (dat m c).owesAt () t0_0.succ
      ∗ owns (c : Thread nD τ) (Memref.whole cc0_stg0_0) fullShare (Qd m c)
      ∗ owns (c : Thread nD τ) (Memref.whole cc0_stg1_0) fullShare (Kd m c)
      ∗ owns (c : Thread nD τ) (Memref.whole cc0_stg2_0) fullShare (Vd m c)
      ∗ owns (c : Thread nD τ) (Memref.whole cc0_stg3_0) fullShare (res m c))
  simp only [before_q, before_k, before_v]
  unfold Φ₀ Φ₁
  iintro ⟨⟨⟨%K, Hb⟩, Hlev, Hs, Hp⟩, HO, ⟨%d0, H0⟩, ⟨%d1, H1⟩, ⟨%d2, H2⟩, ⟨%d3, H3⟩⟩
  ihave HO := (owes_in m c) $$ HO
  ihave H0 := (owns_elim c cc0_stg0_0 _) $$ H0
  ihave H1 := (owns_elim c cc0_stg1_0 _) $$ H1
  ihave H2 := (owns_elim c cc0_stg2_0 _) $$ H2
  ihave H3 := (owns_elim c cc0_stg3_0 _) $$ H3
  iapply (body_ok (Kd m) (Vd m) K c (Qd m c)) $$ [Hb Hlev HO H0 H1 H2 H3 Hs]
  · isplitl [Hb]; · iexact Hb
    isplitl [Hlev]; · iexact Hlev
    isplitl [HO]; · iexact HO
    isplitl [H0]; · iexact H0
    isplitl [H1]; · iexact H1
    isplitl [H2]; · iexact H2
    isplitl [H3]; · iexists _; iexact H3
    iexact Hs
  iintro ⟨Ha, HO, H0, H1, H2, H3, Hs⟩
  isplitl [Ha Hs Hp]
  · isplitl [Ha]; · iexact Ha
    isplitl [Hs]; · iexact Hs
    iexact Hp
  isplitl [HO]; · iapply (owes_out m c) $$ HO
  isplitl [H0]; · iapply (owns_intro c cc0_stg0_0 _) $$ H0
  isplitl [H1]; · iapply (owns_intro c cc0_stg1_0 _) $$ H1
  isplitl [H2]; · iapply (owns_intro c cc0_stg2_0 _) $$ H2
  iapply (owns_intro c cc0_stg3_0 _) $$ H3

end Cert.KernelIdeal.Talk

end
-- ==== Proof.Ideal.Deal.lean ====
/-
  The launch of the exchange: its cells, the tokens and credit dealt to the devices, and the opening of a device's own cells.
-/
module

public import proofs.«01_k».proof.Proof.Ideal.Region

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cells and the tokens a launch funds -/

/-- Two families side by side are the family of the pairs. -/
theorem zip {I : Type} [Fintype I] (Φ Ψ : I → sProp 𝕄) :
    iprop(bigSep Finset.univ Φ ∗ bigSep Finset.univ Ψ) ⊢ (bigSep Finset.univ fun i => iprop(Φ i ∗ Ψ i) : sProp 𝕄) :=
  Entails.of_eq (bigSep_sep' _ _ _).symm
/-- The family of the pairs is the two families side by side. -/
theorem unzip {I : Type} [Fintype I] (Φ Ψ : I → sProp 𝕄) :
    (bigSep Finset.univ fun i => iprop(Φ i ∗ Ψ i) : sProp 𝕄) ⊢ iprop(bigSep Finset.univ Φ ∗ bigSep Finset.univ Ψ) :=
  Entails.of_eq (bigSep_sep' _ _ _)

/-- The kernel's own semaphores: a send and a recv cell per copy. -/
def osem (k : Fin 12 × Fin 2) : SemLoc sig := if k.2 = 0 then .dma (sendS k.1) else .dma (recvS k.1)
/-- The send and recv semaphores are the exchange's own. -/
theorem osem_facts : Pipeline.OwnSemFacts spec0 osem := by decide +kernel
/-- None of the exchange's own semaphores is the barrier. -/
theorem osem_ne_bar (k : Fin 12 × Fin 2) : osem k ≠ .reg barrier0 := by revert k; decide +kernel

def barEmb : Dev nD ↪ GSem nD τ sig := ⟨fun c => barCell c, fun _ _ h => congrArg (fun g : GSem nD τ sig => g.1.1) h⟩
def ownEmb : Dev nD × (Fin 12 × Fin 2) ↪ GSem nD τ sig :=
  ⟨fun x => ((x.1 : Thread nD τ), osem x.2), fun _ _ h =>
    Prod.ext (congrArg (fun g : GSem nD τ sig => g.1.1) h) (osem_facts.inj (congrArg Prod.snd h))⟩
/-- The barrier cells, open from the launch on; and the others, each opened by its owner when its body is entered. -/
abbrev barCells : Finset (GSem nD τ sig) := Finset.univ.map barEmb
abbrev ownCells : Finset (GSem nD τ sig) := Finset.univ.map ownEmb

/-- No barrier cell is a send or recv cell. -/
theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- A device's barrier is one of the exchange's cells. -/
theorem bar_mem (c : Dev nD) : barCell c ∈ (barCells ∪ ownCells : Finset (GSem nD τ sig)) :=
  Finset.mem_union_left _ (Finset.mem_map_of_mem barEmb (Finset.mem_univ c))
/-- A send cell is one of the exchange's cells. -/
theorem send_mem (c : Dev nD) (i : Fin 12) : sendCell c i ∈ (barCells ∪ ownCells : Finset (GSem nD τ sig)) :=
  Finset.mem_union_right _ (Finset.mem_map_of_mem ownEmb (Finset.mem_univ (c, (i, (0 : Fin 2)))))
/-- A recv cell is one of the exchange's cells. -/
theorem recv_mem (c : Dev nD) (i : Fin 12) : recvCell c i ∈ (barCells ∪ ownCells : Finset (GSem nD τ sig)) :=
  Finset.mem_union_right _ (Finset.mem_map_of_mem ownEmb (Finset.mem_univ (c, (i, (1 : Fin 2)))))

/-- Every duty's token: two for a barrier, one for a send or recv cell. -/
abbrev tokOf : Dev nD × (Bool ⊕ (Fin 12 × Fin 2)) → GSem nD τ sig × ℕ × Bool
  | (c, .inl b) => (barCell c, 0, b)
  | (c, .inr k) => (((c : Thread nD τ), osem k), 0, true)
/-- Different duties have different tokens. -/
theorem tokOf_inj : Function.Injective tokOf := by
  rintro ⟨c, b | k⟩ ⟨c', b' | k'⟩ h
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h).symm (osem_ne_bar k')
  · exact absurd (congrArg (fun x : GSem nD τ sig × ℕ × Bool => x.1.2) h) (osem_ne_bar k)
  · have h1 : c = c' := congrArg (fun x : GSem nD τ sig × ℕ × Bool => x.1.1.1) h
    have h2 : k = k' := osem_facts.inj (congrArg (fun x : GSem nD τ sig × ℕ × Bool => x.1.2) h)
    rw [h1, h2]
def allToks : Finset (GSem nD τ sig × ℕ × Bool) := Finset.univ.map ⟨tokOf, tokOf_inj⟩

/-- A family over two is its two members. -/
theorem two (Φ : Fin 2 → sProp 𝕄) : bigSep Finset.univ Φ = iprop(Φ 0 ∗ Φ 1) := BI.bigSep_fin_two Φ
/-- A family over the two truth values is its two members. -/
theorem bools (Φ : Bool → sProp 𝕄) : bigSep Finset.univ Φ = iprop(Φ true ∗ Φ false) :=
  bigSep_univ_eq_bigSepL [true, false] (by decide) (by decide) Φ

/-- A family over the kernel's own semaphores, copy by copy. -/
theorem own_copies (Φ : Fin 12 × Fin 2 → sProp 𝕄) :
    bigSep Finset.univ Φ = (bigSep Finset.univ fun i : Fin 12 => iprop(Φ (i, 0) ∗ Φ (i, 1)) : sProp 𝕄) := by
  rw [bigSep_univ_prod]
  exact bigSep_congr fun i _ => two _

/-- A device's own semaphores at zero are its send and recv cells at zero, copy by copy. -/
theorem ownSems_eq (c : Dev nD) : (Pipeline.ownSems0 osem c : sProp 𝕄)
    = bigSep Finset.univ fun i : Fin 12 => iprop(semVal (sendCell c i) 0 ∗ semVal (recvCell c i) 0) :=
  own_copies fun k => (semVal ((c : Thread nD τ), osem k) 0 : sProp 𝕄)

/-- The tokens as minted, device by device. -/
def minted (c : Dev nD) : sProp 𝕄 :=
  iprop((dutyTok ER (barCell c) 0 true ∗ dutyTok ER (barCell c) 0 false)
    ∗ bigSep Finset.univ fun i : Fin 12 => iprop(dutyTok ER (sendCell c i) 0 true ∗ dutyTok ER (recvCell c i) 0 true))
/-- The tokens as dealt: those of the duties a device pays. -/
def dealt (c : Dev nD) : sProp 𝕄 :=
  iprop((dutyTok ER (barCell (lf c)) 0 true ∗ dutyTok ER (barCell (rt c)) 0 false)
    ∗ bigSep Finset.univ fun i : Fin 12 => iprop(dutyTok ER (sendCell c i) 0 true ∗ dutyTok ER (recvCell (tgt c i) i) 0 true))

/-- All the tokens are the tokens of each device's own cells. -/
theorem toks_minted : bigSep allToks (fun x => (dutyTok ER x.1 x.2.1 x.2.2 : sProp 𝕄)) = bigSep Finset.univ fun c : Dev nD => minted (F := F) c := by
  unfold allToks; rw [bigSep_map, bigSep_univ_prod]
  refine bigSep_congr fun c _ => ?_
  rw [bigSep_univ_sum, bools, own_copies]
  rfl

/-- A family over devices and copies, read at the device each copy lands on. -/
theorem around (Φ : Dev nD → Fin 12 → sProp 𝕄) :
    (bigSep Finset.univ fun c : Dev nD => bigSep Finset.univ fun i : Fin 12 => Φ c i : sProp 𝕄)
      = bigSep Finset.univ fun c : Dev nD => bigSep Finset.univ fun i : Fin 12 => Φ (tgt c i) i := by
  rw [bigSep_univ_comm, bigSep_univ_comm (fun c i => Φ (tgt c i) i)]
  exact bigSep_congr fun i _ => bigSep_univ_equiv (hop i) fun c => Φ c i

/-- The tokens of the devices' own cells are, taken together, the tokens of the duties the devices pay. -/
theorem toks_dealt : (bigSep Finset.univ fun c : Dev nD => minted (F := F) c : sProp 𝕄) = bigSep Finset.univ fun c : Dev nD => dealt c := by
  unfold minted dealt
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    around (fun c i => (dutyTok ER (recvCell c i) 0 true : sProp 𝕄))]
  rfl

/-! ## The launch credit -/

/-- The credit of the landings of the copies of `l`. -/
def creds (c : Dev nD) : List (Fin 12) → sProp 𝕄
  | [] => iprop(emp)
  | i :: l => iprop(creds c l ∗ cred (tallyAt (recvCell c i) () (cr i)))

/-- If each device owes the landings of the copies of a list, each device has the credit of the landings on it. -/
theorem creds_debt (c : Dev nD) (l : List (Fin 12)) :
    (Pipeline.launchCred (fun d => debt d l) c : sProp 𝕄) ⊢ creds c l := by
  induction l with
  | nil => iintro -; unfold creds; iempintro
  | cons i l ih =>
    unfold debt creds
    rw [Pipeline.launchCred_add]
    iintro ⟨H, G⟩
    isplitl [H]; · iapply ih $$ H
    iapply (Pipeline.launchCred_tallyAt (SemLoc.dma (recvS i)) (fun d => tgt d i) (fun d => org d i) (fun d => tgt_org d i) (fun d => org_tgt d i) () (cr i) c) $$ G

/-- The credit in the order of the copies is the credit of every copy. -/
theorem creds_order (c : Dev nD) : (creds (F := F) c order : sProp 𝕄) ⊢ bigSep Finset.univ fun i : Fin 12 => cred (tallyAt (recvCell c i) () (cr i)) := by
  rw [all12]
  simp only [creds]
  iintro ⟨⟨⟨⟨⟨⟨⟨⟨⟨⟨⟨⟨-, H7⟩, H5⟩, H6⟩, H4⟩, H11⟩, H10⟩, H3⟩, H2⟩, H1⟩, H0⟩, H9⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- At the launch a device has the credit of two units on its barrier and of each landing on it. -/
theorem creds_launch (c : Dev nD) : (Pipeline.launchCred O₀ c : sProp 𝕄)
    ⊢ iprop(cred (tallyAt (barCell c) () 2) ∗ bigSep Finset.univ fun i : Fin 12 => cred (tallyAt (recvCell c i) () (cr i))) := by
  rw [show (O₀ : Dev nD → CellTallies nD τ sig Unit) = fun d => (debt d order + tallyAt (barCell (rt d)) () 1) + tallyAt (barCell (lf d)) () 1 from rfl,
    Pipeline.launchCred_add (fun d => debt d order + tallyAt (barCell (rt d)) () 1) (fun d => tallyAt (barCell (lf d)) () 1),
    Pipeline.launchCred_add (fun d => debt d order) (fun d => tallyAt (barCell (rt d)) () 1)]
  iintro ⟨⟨H, G⟩, G'⟩
  ihave H := (creds_debt c order) $$ H
  ihave G := (Pipeline.launchCred_tallyAt (SemLoc.reg barrier0) rt lf rt_lf lf_rt () 1 c) $$ G
  ihave G' := (Pipeline.launchCred_tallyAt (SemLoc.reg barrier0) lf rt lf_rt rt_lf () 1 c) $$ G'
  isplitr [H]
  · ihave X := ((cred_add (tallyAt (barCell c) () 1) (tallyAt (barCell c) () 1)).2) $$ [G G']
    · isplitl [G]; · iexact G
      iexact G'
    ihave X := (Entails.of_eq (congrArg cred (tallyAt_add (barCell c) () 1 1))) $$ X
    iexact X
  iapply (creds_order c) $$ H

/-! ## What a device holds from the launch to its body -/

variable (KB : Dev nD → Codes F) (SB : Dev nD → Scales F)

/-- The invariants, what a device needs for the barrier, the right to open each of its own cells, the tokens of the copies it
    starts, and the credit of those that land on it. -/
def start (c : Dev nD) : sProp 𝕄 :=
  iprop(∃ K, invs KB SB K c ∗ barReady c
    ∗ (bigSep Finset.univ fun i : Fin 12 => iprop(openTok ER (sendCell c i) ∗ openTok ER (recvCell c i)))
    ∗ (bigSep Finset.univ fun i : Fin 12 => iprop(dutyTok ER (sendCell c i) 0 true ∗ dutyTok ER (recvCell (tgt c i) i) 0 true))
    ∗ bigSep Finset.univ fun i : Fin 12 => cred (tallyAt (recvCell c i) () (cr i)))

/-- The two cells of a copy opened, their counters put in. -/
theorem open_copy (K : GSem nD τ sig → ℕ) (c : Dev nD) (i : Fin 12) :
    iprop(invs KB SB K c ∗ ((openTok ER (sendCell c i) ∗ openTok ER (recvCell c i)) ∗ (semVal (sendCell c i) 0 ∗ semVal (recvCell c i) 0)))
      ⊢ (|={Set.univ}=> ((atPos ER (sendCell c i) 0 ∅ 0 ∗ atPos ER (recvCell c i) 0 ∅ 0) ∗ (reached ER (sendCell c i) 0 ∗ reached ER (recvCell c i) 0)) : sProp 𝕄) := by
  unfold invs
  iintro ⟨⟨-, -, -, #HI⟩, ⟨Ho, Ho'⟩, ⟨Hv, Hv'⟩⟩
  ihave HI' := (one_of i _) $$ HI
  icases HI' with ⟨#HS, #HR, -⟩
  imod (Rounds.cell_open ER (rd KB SB) (g := sendCell c i) (Set.mem_univ (K (sendCell c i)))) $$ [Ho Hv] with ⟨A, R⟩
  · isplitr; · iexact HS
    isplitl [Ho]; · iexact Ho
    iexact Hv
  imod (Rounds.cell_open ER (rd KB SB) (g := recvCell c i) (Set.mem_univ (K (recvCell c i)))) $$ [Ho' Hv'] with ⟨A', R'⟩
  · isplitr; · iexact HR
    isplitl [Ho']; · iexact Ho'
    iexact Hv'
  imodintro
  isplitl [A A']
  · isplitl [A]; · iexact A
    iexact A'
  isplitl [R]; · iexact R
  iexact R'

/-- A device opens all its send and recv cells: it puts their counters in, and is at round 0 of each. -/
theorem open_all (K : GSem nD τ sig → ℕ) (c : Dev nD) :
    iprop(invs KB SB K c ∗ bigSep Finset.univ fun i : Fin 12 =>
        iprop((openTok ER (sendCell c i) ∗ openTok ER (recvCell c i)) ∗ (semVal (sendCell c i) 0 ∗ semVal (recvCell c i) 0)))
      ⊢ (|={Set.univ}=> bigSep Finset.univ fun i : Fin 12 =>
          iprop((atPos ER (sendCell c i) 0 ∅ 0 ∗ atPos ER (recvCell c i) 0 ∅ 0) ∗ (reached ER (sendCell c i) 0 ∗ reached ER (recvCell c i) 0)) : sProp 𝕄) :=
  (bigSep_with_persistent (R := invs KB SB K c) fun i _ => open_copy KB SB K c i).trans (bigSep_fupd _ _)

end Cert.KernelIdeal.Talk

end
-- ==== Proof.Ideal.Segs.lean ====
/-
  The three segments of @main: host operations, the exchanging region, host operations.
-/
module

public import proofs.«01_k».proof.Proof.Ideal.Deal
public import proofs.«01_k».proof.Proof.Gen.KernelIdeal.Launch
public import Idealize.ShloMosaic.Lib.Pipeline.RegionArraysS

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## @main's segments: the host operations before the region, the region, the host operations after it -/

abbrev adm : (p : Fin 1) → (pcfgs (F := F) p).Adm := fun p => (cfgs p).toPCfg_adm
abbrev pdats : (p : Fin 1) → (c : Dev nD) → Dat τ (Elt F) Unit ℕ UU ℕ (Pipeline.pin (pcfgs (F := F)) adm p) c := fun
  | ⟨0, _⟩ => dat m
  | ⟨_ + 1, h⟩ => absurd h (Nat.not_lt.2 (Nat.le_add_left _ _))

/-- Different windows and buffers have different cells. -/
theorem cells_inj : Function.Injective (Pipeline.cellOf (nD := nD) (τ := τ) (Pipeline.pin (pcfgs (F := F)) adm)) := cellOf_inj

/-- The facts about the region that its launch needs. -/
theorem kit : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

/-- The buffers as the region leaves them, and as @main does. -/
def V' (c : Dev nD) : Valuation τ sig (Elt F) := Pipeline.afterRegion (dat m c) (V0 m c)
def V'' (c : Dev nD) : Valuation τ sig (Elt F) := StableHlo.after hostOps1 (V' m c)

abbrev start' (c : Dev nD) : sProp 𝕄 := start (codes (Kd m) (Vd m)) (scls (Kd m) (Vd m)) c
/-- The exchange's part once the device's own cells are open, and at its end. -/
def opened (c : Dev nD) : sProp 𝕄 := iprop((∃ K, before (Kd m) (Vd m) K c) ∗ levAts L lv)
def closed (c : Dev nD) : sProp 𝕄 := semVal (barCell c) 0

/-- From the start of the exchange and its own semaphores at zero a device opens its cells. -/
theorem start_opened (c : Dev nD) : iprop(start' m c ∗ Pipeline.ownSems0 osem c ∗ levAts L lv) ⊢ (|={Set.univ}=> opened m c : sProp 𝕄) := by
  rw [ownSems_eq]
  unfold start' start opened before
  iintro ⟨⟨%K, #HI, Hb, Ho, Ht, Hc⟩, Hv, #Hlev⟩
  imod (open_all (codes (Kd m) (Vd m)) (scls (Kd m) (Vd m)) K c) $$ [Ho Hv] with H
  · isplitr; · iexact HI
    iapply (zip _ _); isplitl [Ho] <;> iassumption
  imodintro
  ihave H' := (unzip _ _) $$ H
  icases H' with ⟨Ha, Hr⟩
  ihave Ha' := (unzip _ _) $$ Ha
  icases Ha' with ⟨Ha1, Ha2⟩
  ihave Ht' := (unzip _ _) $$ Ht
  icases Ht' with ⟨Ht1, Ht2⟩
  isplitr []
  · iexists K
    unfold ctx
    isplitl [Hr]
    · isplitr; · iexact HI
      iexact Hr
    isplitl [Hb]; · iexact Hb
    isplitr [Hc Ha2]
    · unfold ready
      iapply (zip _ _); isplitl [Ht1]; · iexact Ht1
      iapply (zip _ _); isplitl [Ht2]; · iexact Ht2
      iexact Ha1
    · unfold await
      iapply (zip _ _); isplitl [Hc]; · iexact Hc
      iexact Ha2
  iexact Hlev

/-- What a device has on entering the region is the state the body starts from. -/
theorem entry_state (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ opened m c)
      ⊢ (pdats m 0 c).Φ 0 := by
  rw [show (pdats m 0 c).Φ 0 = Φ₀ m c from rfl,
    show (Pipeline.scopedRest (Pipeline.pin (pcfgs (F := F)) adm 0).spec c : sProp 𝕄) = scratch c from scopedRest0_eq c]
  unfold Φ₀ opened
  iintro ⟨Hs, Hp, -, HK, Hlev⟩
  isplitl [HK]; · iexact HK
  isplitl [Hlev]; · iexact Hlev
  isplitl [Hs] <;> iassumption

/-- The state the body ends in gives back what the region leaves, every own semaphore at zero. -/
theorem exit_state (c : Dev nD) (W : Valuation τ sig (Elt F)) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ W
      ∗ Pipeline.ownSems0 osem c ∗ closed c) := by
  rw [show (pdats m 0 c).Φ (Fin.last (Pipeline.pin (pcfgs (F := F)) adm 0).N) = Φ₁ c from rfl, ownSems_eq,
    show (Pipeline.scopedRest (Pipeline.pin (pcfgs (F := F)) adm 0).spec c : sProp 𝕄) = scratch c from scopedRest0_eq c,
    show (StableHlo.held (c.tc : Thread nD τ) ∅ W : sProp 𝕄) = BI.emp from BI.bigSep_empty]
  unfold Φ₁ after closed
  iintro ⟨⟨Hb, Hv⟩, Hs, Hp⟩
  isplitl [Hs]; · iexact Hs
  isplitl [Hp]; · iexact Hp
  isplitr; · iempintro
  isplitl [Hv] <;> iassumption

/-- Everything a device owes is owed on a barrier or recv cell. -/
theorem owed_cells {c : Dev nD} {g : GSem nD τ sig} {u : Unit} (h : 0 < O₀ c g u) : (∃ d, g = barCell d) ∨ ∃ d i, g = recvCell d i := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, rfl⟩ := debt_pos h; exact .inr ⟨_, _, rfl⟩
    · exact .inl ⟨_, tallyAt_pos h⟩
  · exact .inl ⟨_, tallyAt_pos h⟩

/-- Whatever a device owes lies on a cell with a level above 0. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then O₀ c else 0 from rfl] at h
  split at h
  · rcases owed_cells h with ⟨d, rfl⟩ | ⟨d, j, rfl⟩
    · exact ⟨by rw [L_tc]; exact Finset.mem_singleton_self _, by rw [lv_bar]; decide⟩
    · exact ⟨by rw [L_tc]; exact Finset.mem_singleton_self _, by rw [lv_recv]; exact lt_trans Nat.one_pos (lvR_pos j)⟩
  · exact absurd h (Nat.lt_irrefl 0)

/-- The staging semaphores are at level 0. -/
theorem lv_staging (c : Dev nD) (w : Fin 4) (s : Fin (spec0 w).nbuf) : lv ((c : Thread nD τ), .dma ((spec0 w).sem s)) () = 0 := by
  revert c w s; decide +kernel

/-- The buffers that are no window's array. -/
abbrev others : Finset (DevRef τ sig) := Pipeline.ucRefs τ sig \ Pipeline.arrRefs spec0

/-- The arrays the host holds are the windows' arrays and the others. -/
theorem held_parts (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) others W) :=
  StableHlo.held_sub_split (c.tc : Thread nD τ) (Pipeline.arrRefs_sub_ucRefs spec0 winFacts0.arr_unscoped) W

/-- What rides beside the buffers before the region and after it. -/
def R₀ (c : Dev nD) : sProp 𝕄 := iprop(start' m c ∗ (∃ r, prngReg c r) ∗ ∃ W, owes (c : Thread nD τ) (O₀ c) W)
def R₁ (c : Dev nD) : sProp 𝕄 := iprop(closed (F := F) c ∗ ∃ W, owes (c : Thread nD τ) (0 : CellTallies nD τ sig Unit) W)

def seg0 : Pipeline.HostSeg (Ix := Unit) (Name := ℕ) (U := UU) (Lvl := ℕ) (pcfgs (F := F)) defs₀ 𝒱x L lv :=
  Pipeline.HostSeg.ofOps _ _ _ _ _ (Pipeline.ucRefs τ sig) hostOps0
    (fun op h => Pipeline.sub_ucRefs op (List.forall_iff_forall_mem.mp hostOps0_sub op h))
    (List.forall_iff_forall_mem.mp hostOps0_fresh) (fun c b => m (c, b)) (R₀ m)
def seg2 : Pipeline.HostSeg (Ix := Unit) (Name := ℕ) (U := UU) (Lvl := ℕ) (pcfgs (F := F)) defs₀ 𝒱x L lv :=
  Pipeline.HostSeg.ofOps _ _ _ _ _ (Pipeline.ucRefs τ sig) hostOps1
    (fun op h => Pipeline.sub_ucRefs op (List.forall_iff_forall_mem.mp hostOps1_sub op h))
    (List.forall_iff_forall_mem.mp hostOps1_fresh) (V' m) R₁

set_option backward.isDefEq.respectTransparency.types false in
def seg1 : Pipeline.RegionSeg (pcfgs (F := F)) adm (pdats m) () defs₀ 𝒱x L lv 0 :=
  Pipeline.RegionSeg.ofTalk (pcfgs (F := F)) adm (pdats m) () defs₀ 𝒱x L lv 0 osem osem_facts
    ∅ others (Finset.empty_subset _) kit rfl (fun c => (body_obligation m c).loose)
    (fun _ => 0) O₀ (fun c => (zero_add _).symm) (fun c => rfl) (fun _ => rfl) (fun c w => by unfold Dat.share; split <;> rfl)
    (V0 m) (V' m) (fun c b hb => Pipeline.afterRegion_off (dat m c) (V0 m c) (Pipeline.ucRefs τ sig) b (Finset.mem_sdiff.mp hb).1)
    (start' m) closed (opened m) closed (start_opened m) (fun c => entry_state m c _) (fun c => exit_state m c _)
    (fun c => by iintro H; imodintro; iexact H)
    (fun _ => 0)
    ⟨fun _ w s => by rw [L_tc]; exact Finset.mem_singleton_self _, fun c w s => le_of_eq (lv_staging c w s), fun c t g i h => owed_above m c t g i h⟩
    (fun _ => iprop(emp))
    (fun _ w => rfl) (fun c w => (Pipeline.afterRegion_arr (dat m c) (V0 m c) winFacts0.arr_inj w).symm)

/-- The host's first segment ends where the region begins. -/
theorem seg1_pre (c : Dev nD) : (seg0 m).post c ⊢ (seg1 m).pre c := by
  show iprop(StableHlo.held (c.tc : Thread nD τ) (Pipeline.ucRefs τ sig) (V0 m c) ∗ R₀ m c)
    ⊢ iprop(StableHlo.held (c.tc : Thread nD τ) (Pipeline.arrRefs spec0) (V0 m c) ∗ (∃ r, prngReg c r)
      ∗ (StableHlo.held (c.tc : Thread nD τ) others (V0 m c) ∗ emp) ∗ start' m c ∗ ∃ Wd, owes (c : Thread nD τ) (0 + O₀ c) Wd)
  rw [held_parts, zero_add]
  unfold R₀
  iintro ⟨⟨Ha, Ho⟩, Hs, Hp, HO⟩
  isplitl [Ha]; · iexact Ha
  isplitl [Hp]; · iexact Hp
  isplitl [Ho]
  · isplitl [Ho]; · iexact Ho
    iempintro
  isplitl [Hs] <;> iassumption

/-- The region ends where the host's last segment begins. -/
theorem seg1_post (c : Dev nD) : (seg1 m).post c ⊢ (seg2 m).pre c := by
  show iprop(StableHlo.held (c.tc : Thread nD τ) (Pipeline.arrRefs spec0) (V' m c) ∗ (∃ r, prngReg c r)
      ∗ (StableHlo.held (c.tc : Thread nD τ) others (V' m c) ∗ emp) ∗ closed c ∗ ∃ Wd, owes (c : Thread nD τ) (0 : CellTallies nD τ sig Unit) Wd)
    ⊢ iprop(StableHlo.held (c.tc : Thread nD τ) (Pipeline.ucRefs τ sig) (V' m c) ∗ R₁ c)
  rw [held_parts]
  unfold R₁
  iintro ⟨Ha, -, ⟨Ho, -⟩, Hb, HO⟩
  isplitl [Ha Ho]; · isplitl [Ha] <;> iassumption
  isplitl [Hb] <;> iassumption

end Cert.KernelIdeal.Talk

end
-- ==== Proof.Ideal.Launch.lean ====
/-
  The launch funded and dealt, and the run of @main on the four devices.
-/
module

public import proofs.«01_k».proof.Proof.Ideal.Segs

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The launch's share of the ghost state: the library's at the staging cells, and the exchange's cells and tokens. -/
def u₀ : UU :=
  (initOf (Pipeline.cells (Pipeline.pin (pcfgs (F := F)) adm) cells_inj) (Pipeline.launchToks (Pipeline.pin (pcfgs (F := F)) adm) cells_inj),
    launchOf barCells ownCells allToks)

/-- The exchange's whole element, kept at device 0 until it is dealt. -/
def parked (c : Dev nD) : sProp 𝕄 := if c = 0 then BI.own (ER (launchOf barCells ownCells allToks)) else iprop(emp)
/-- What is parked over all devices is the exchange's whole element. -/
theorem parked_eq : bigSep Finset.univ (parked (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may consult: all the cells' invariants under one naming, round 0 of every barrier reached. -/
def known (κ : GSem nD τ sig → ℕ) : sProp 𝕄 :=
  iprop((bigSep (barCells ∪ ownCells) fun g => cellInv ER (rd (codes (Kd m) (Vd m)) (scls (Kd m) (Vd m))) (κ g) g) ∗ bigSep barCells fun g => reached ER g 0)

instance known_persistent (κ : GSem nD τ sig → ℕ) : BI.Persistent (known m κ) := by unfold known; infer_instance

/-- Among what is known is the invariant of every cell of the exchange. -/
theorem known_inv (κ : GSem nD τ sig → ℕ) {g : GSem nD τ sig} (hg : g ∈ (barCells ∪ ownCells : Finset (GSem nD τ sig))) :
    known m κ ⊢ cellInv ER (rd (codes (Kd m) (Vd m)) (scls (Kd m) (Vd m))) (κ g) g := by
  unfold known
  iintro ⟨H, -⟩
  iapply (show (bigSep (barCells ∪ ownCells) fun g => (cellInv ER (rd (codes (Kd m) (Vd m)) (scls (Kd m) (Vd m))) (κ g) g : sProp 𝕄)) ⊢ _ from bigSep_elim hg) $$ H
/-- Among what is known is that round 0 of every barrier is reached. -/
theorem known_reached (κ : GSem nD τ sig → ℕ) (c : Dev nD) : known m κ ⊢ (reached ER (barCell c) 0 : sProp 𝕄) := by
  unfold known
  iintro ⟨-, H⟩
  iapply (show (bigSep barCells fun g => (reached ER g 0 : sProp 𝕄)) ⊢ _ from bigSep_elim (Finset.mem_map_of_mem barEmb (Finset.mem_univ c))) $$ H

/-- Among what is known are the invariants of a copy's three cells. -/
theorem known_copy (κ : GSem nD τ sig → ℕ) (c : Dev nD) (i : Fin 12) : iprop(known m κ ∗ emp)
    ⊢ iprop(cellInv ER (rd (codes (Kd m) (Vd m)) (scls (Kd m) (Vd m))) (κ (sendCell c i)) (sendCell c i)
      ∗ cellInv ER (rd (codes (Kd m) (Vd m)) (scls (Kd m) (Vd m))) (κ (recvCell c i)) (recvCell c i)
      ∗ cellInv ER (rd (codes (Kd m) (Vd m)) (scls (Kd m) (Vd m))) (κ (recvCell (tgt c i) i)) (recvCell (tgt c i) i)) := by
  iintro ⟨#H, -⟩
  isplitr; · iapply (known_inv m κ (send_mem c i)); iexact H
  isplitr; · iapply (known_inv m κ (recv_mem c i)); iexact H
  iapply (known_inv m κ (recv_mem (tgt c i) i)); iexact H

/-- Among what is known are all the invariants a device opens. -/
theorem known_invs (κ : GSem nD τ sig → ℕ) (c : Dev nD) :
    known m κ ⊢ invs (codes (Kd m) (Vd m)) (scls (Kd m) (Vd m)) κ c := by
  unfold invs
  iintro #H
  isplitr; · iapply (known_inv m κ (bar_mem c)); iexact H
  isplitr; · iapply (known_inv m κ (bar_mem (lf c))); iexact H
  isplitr; · iapply (known_inv m κ (bar_mem (rt c))); iexact H
  iapply (show iprop(known m κ ∗ bigSep Finset.univ fun _ : Fin 12 => (BI.emp : sProp 𝕄)) ⊢ _ from
    bigSep_with_persistent (R := known m κ) fun i _ => known_copy m κ c i)
  isplitr; · iexact H
  rw [BI.bigSep_emp_const]; iempintro

/-- What a device alone holds of the exchange at the launch. -/
def hand (c : Dev nD) : sProp 𝕄 :=
  iprop(atPos ER (barCell c) 0 ∅ 0 ∗ (bigSep Finset.univ fun i : Fin 12 => iprop(openTok ER (sendCell c i) ∗ openTok ER (recvCell c i))) ∗ dealt c)
/-- And what it holds beside the exchange. -/
def rest (c : Dev nD) : sProp 𝕄 :=
  iprop(StableHlo.held (c.tc : Thread nD τ) (Pipeline.ucRefs τ sig) (fun b => m (c, b))
    ∗ (cred (tallyAt (barCell c) () 2) ∗ bigSep Finset.univ fun i : Fin 12 => cred (tallyAt (recvCell c i) () (cr i)))
    ∗ owes (c : Thread nD τ) (O₀ c) ∅ ∗ ∃ r, prngReg c r)

/-- What is known, what a device has in hand and the rest are what the host's first segment starts from. -/
theorem launch_seg (κ : GSem nD τ sig → ℕ) (c : Dev nD) : iprop(known m κ ∗ (hand c ∗ rest m c)) ⊢ (seg0 m).pre c := by
  show _ ⊢ iprop(StableHlo.held (c.tc : Thread nD τ) (Pipeline.ucRefs τ sig) (fun b => m (c, b)) ∗ R₀ m c)
  unfold hand rest R₀ start' start barReady dealt
  iintro ⟨#HR, ⟨Ha, Ho, ⟨Tl, Tr⟩, Ht⟩, Hh, ⟨Hb, Hc⟩, HO, Hp⟩
  isplitl [Hh]; · iexact Hh
  isplitr [HO Hp]
  · iexists κ
    isplitr; · iapply (known_invs m κ c); iexact HR
    isplitl [Ha Hb Tl Tr]
    · isplitl [Ha]; · iexact Ha
      isplitl [Hb]; · iexact Hb
      isplitr; · iapply (known_reached m κ (lf c)); iexact HR
      isplitr; · iapply (known_reached m κ (rt c)); iexact HR
      isplitl [Tl] <;> iassumption
    isplitl [Ho]; · iexact Ho
    isplitl [Ht] <;> iassumption
  isplitl [Hp]; · iexact Hp
  iexists ∅; iexact HO

/-- The barrier is the only semaphore that is not scoped. -/
theorem own_sem_only : ∀ sm : SemLoc sig, sm.isScoped .tc = false → sm = .reg barrier0 := by decide
/-- The semaphores that are not scoped, at zero, are the device's barrier at zero. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, bigSep_singleton]

/-- What one device is given at the launch is the rest, its barrier at zero and what is parked with it. -/
theorem launch_one (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ parked c)
    ⊢ (iprop(rest m c ∗ (semVal (barCell c) 0 ∗ parked c)) : sProp 𝕄) := by
  rw [show (unscopedBufs c (fun b => m ((c.tc : Thread nD τ).loc b)) : sProp 𝕄)
      = StableHlo.held (c.tc : Thread nD τ) (Pipeline.ucRefs τ sig) (fun b => m (c, b)) from Pipeline.unscopedBufs_held c (fun b => m (c, b)), unscoped_bar]
  unfold rest
  iintro ⟨Hh, Hs, HO, Hc, Hp, HG⟩
  isplitr [Hs HG]
  · isplitl [Hh]; · iexact Hh
    isplitl [Hc]; · iapply (creds_launch c) $$ Hc
    isplitl [HO]; · iexact HO
    iexists (ρ c); iexact Hp
  isplitl [Hs] <;> iassumption

/-- The devices' barriers at zero are the barrier cells at zero. -/
theorem bars_in : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
/-- The places at the barrier cells are one place for each device. -/
theorem places_out : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
/-- The rights to open the own cells are, device by device, the rights to open its send and recv cells. -/
theorem rights_out : bigSep ownCells (fun g => (openTok ER g : sProp 𝕄))
    ⊢ bigSep Finset.univ (fun c : Dev nD => bigSep Finset.univ fun i : Fin 12 => iprop(openTok ER (sendCell c i) ∗ openTok ER (recvCell c i))) :=
  Entails.of_eq (by
    rw [bigSep_map, bigSep_univ_prod]
    exact bigSep_congr fun c _ => own_copies fun k => (openTok ER ((c : Thread nD τ), osem k) : sProp 𝕄))
/-- All the tokens are, device by device, the tokens of the duties it pays. -/
theorem tokens_out : bigSep allToks (fun x => (dutyTok ER x.1 x.2.1 x.2.2 : sProp 𝕄)) ⊢ bigSep Finset.univ (fun c : Dev nD => dealt (F := F) c) :=
  Entails.of_eq (toks_minted.trans toks_dealt)

/-- The launch: every cell funded, every token dealt. -/
theorem launch_all :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c)) ∗ levAts L lv)
      ⊢ (|={Set.univ}=> bigSep Finset.univ (seg0 m).pre : sProp 𝕄) := by
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c))
      ⊢ (bigSep Finset.univ fun c : Dev nD => iprop(rest m c ∗ (semVal (barCell c) 0 ∗ parked c)) : sProp 𝕄) from bigSep_mono fun c _ => launch_one m ρ c) $$ H
  ihave H2 := (unzip _ _) $$ H'; icases H2 with ⟨HB, H3⟩
  ihave H4 := (unzip _ _) $$ H3; icases H4 with ⟨Hv, HG⟩
  ihave Hu := (Entails.of_eq (parked_eq (F := F))) $$ HG
  imod (Rounds.fund_launch ER (rd (codes (Kd m) (Vd m)) (scls (Kd m) (Vd m))) cells_disjoint (fun g _ h => h) allToks) $$ [Hv Hu] with ⟨%κ, -, #Hinv, #Hr, Hat, Hopen, Htok⟩
  · isplitl [Hv]
    · iapply bars_in $$ Hv
    · iexact Hu
  imodintro
  iapply (bigSep_with_persistent (R := known m κ) (Φ := fun c => iprop(hand c ∗ rest m c)) fun c _ => launch_seg m κ c)
  isplitr
  · unfold known
    isplitr; · iexact Hinv
    iexact Hr
  iapply (zip _ _)
  isplitr [HB]
  · unfold hand
    iapply (zip _ _); isplitl [Hat]; · iapply places_out $$ Hat
    iapply (zip _ _); isplitl [Hopen]; · iapply rights_out $$ Hopen
    iapply (tokens_out (F := F)) $$ Htok
  · iexact HB

set_option backward.isDefEq.respectTransparency.types false in
/-- The run: from any memory with every counter at zero, every fair execution of @main ends, with every buffer of every device as
    @main's segments leave it and every counter at zero. -/
theorem run : θ_run defs (onTc (τ := τ) (main (F := F))) ⟨m, fun _ => 0, ρ⟩
    (fun r => (∀ c : Dev nD, ∀ b ∈ Pipeline.ucRefs τ sig, r.2.mem (c, b) = V'' m c b) ∧ r.2.sem = fun _ => 0) :=
  Pipeline.θ_run_regions_kit_sems (pcfgs (F := F)) adm (pdats m) () cells_inj EP defs₀ 𝒱x L lv m ρ main [.host (seg0 m), .region (seg1 m), .host (seg2 m)]
    (fun c Q => by rw [main_segs adm (pdats m) () 𝒱x L lv (seg0 m) (seg2 m) (seg1 m) rfl rfl c])
    (by simp only [Pipeline.Seg.pipes_host, Pipeline.Seg.pipes_region, Pipeline.Seg.pipes_nil]; exact List.nodup_singleton _)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      iapply (Entails.of_eq (parked_eq (F := F)).symm) $$ HX)
    (T₀ := (seg0 m).pre) (Tₙ := fun c => iprop(StableHlo.held (c.tc : Thread nD τ) (Pipeline.ucRefs τ sig) (V'' m c) ∗ closed c))
    (hch := by
      refine ⟨fun c => .rfl, fun c => seg1_pre m c, fun c => seg1_post m c, fun c => ?_⟩
      show iprop(StableHlo.held (c.tc : Thread nD τ) (Pipeline.ucRefs τ sig) (V'' m c) ∗ R₁ c) ⊢ _
      unfold R₁
      iintro ⟨Hh, Hb, HO⟩
      isplitr [HO]
      · isplitl [Hh] <;> iassumption
      · iexact HO)
    (hinit := launch_all m ρ)
    (QY := fun c s => (∀ b ∈ Pipeline.ucRefs τ sig, s.mem (c, b) = V'' m c b) ∧ s.sem (barCell c) = 0)
    (hfin := fun c s' => by
      unfold StableHlo.held closed
      iintro ⟨⟨Hh, Hb⟩, HSI⟩
      icombine HSI Hb gives %hb
      ihave Hr := (pointsTo_read_all (Pipeline.ucRefs τ sig) (fun b => ((c.tc : Thread nD τ).1, b)) (V'' m c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => (h c).1, by
      funext g
      by_cases hg : g.1.2 ≠ .tc ∨ g.2.isScoped .tc = true
      · exact hs g hg
      · obtain ⟨h1, h2⟩ := not_or.mp hg
        obtain ⟨⟨d, p⟩, sm⟩ := g
        obtain rfl : p = .tc := not_not.mp h1
        obtain rfl := own_sem_only sm (Bool.eq_false_iff.mpr h2)
        exact (h d).2⟩)

end Cert.KernelIdeal.Talk

end
-- ==== Proof.Ideal.Final.lean ====
/-
  What the run leaves: the arguments unchanged, and the result as a term in what the body computes.
-/
module

public import proofs.«01_k».proof.Proof.Ideal.Launch
public import Idealize.ShloMosaic.Lib.Pipeline.ValueKit
public import Idealize.ShloMosaic.Lib.Claim

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A buffer no segment writes ends as launched. -/
theorem kept (c : Dev nD) (r : Ref sig .tc) (h₀ : V m c r = m ((c : Thread nD τ).loc r)) (h₁ : ∀ w, r ≠ Pipeline.arrRef spec0 w)
    (h₂ : r ≠ main_v10) (h₃ : r ≠ main_v11) : V'' m c (Proc.devRef .tc r) = m ((c : Thread nD τ).loc r) := by
  unfold V'' hostOps1
  rw [StableHlo.after_cons, StableHlo.after_cons, StableHlo.after_nil, StableHlo.unary_result_ne _ _ _ _ _ _ h₃, StableHlo.reshape_result_ne _ _ _ _ _ _ _ h₂]
  exact (Pipeline.afterRegion_of_not_arr (dat m c) (V0 m c) h₁).trans h₀

/-- The first argument is unchanged at the end. -/
theorem arg0_kept (c : Dev nD) : V'' m c main_arg0 = m ((c : Thread nD τ).loc main_arg0) := kept m c _ (V_main_arg0 m c) (by decide) (by decide) (by decide)
/-- The second argument is unchanged at the end. -/
theorem arg1_kept (c : Dev nD) : V'' m c main_arg1 = m ((c : Thread nD τ).loc main_arg1) := kept m c _ (V_main_arg1 m c) (by decide) (by decide) (by decide)
/-- The third argument is unchanged at the end. -/
theorem arg2_kept (c : Dev nD) : V'' m c main_arg2 = m ((c : Thread nD τ).loc main_arg2) := kept m c _ (V_main_arg2 m c) (by decide) (by decide) (by decide)

/-- The result window's array after the region. -/
theorem v9_after (c : Dev nD) : V' m c main_v9 = res m c := by
  refine (Pipeline.afterRegion_arr (dat m c) (V0 m c) winFacts0.arr_inj 3).trans ?_
  refine (dat m c).arrAt_eq_of_after_last 3 t0_0 (by decide +kernel) _ fun j => ?_
  rfl

/-- @main's result on device c: the body's, its axes put back. -/
def result (c : Dev nD) : Vec F S2x512x8x64 .f32 :=
  transpose S2x512x8x64 [0, 2, 1, 3] (shapeCast S2x8x512x64 (res m c) shapeCasts_S16x512x64_S2x8x512x64) transposes_S2x8x512x64_S2x512x8x64_0_2_1_3

/-- The returned array holds `result` at the end. -/
theorem v11_result (c : Dev nD) : V'' m c main_v11 = result m c := by
  unfold V'' hostOps1 result
  rw [StableHlo.after_cons, StableHlo.after_cons, StableHlo.after_nil, StableHlo.unary_result, StableHlo.reshape_result]
  rw [v9_after]
  rfl

/-- Each operand window stages its whole array. -/
theorem idx0 : win0_0.index t0_0 = ![0, 0, 0] := by decide +kernel
/-- The keys' window is at the origin. -/
theorem idx1 : win0_1.index t0_0 = ![0, 0, 0] := by decide +kernel
/-- The values' window is at the origin. -/
theorem idx2 : win0_2.index t0_0 = ![0, 0, 0] := by decide +kernel

/-- The body's queries are the whole array the host prepared. -/
theorem Qd_array (c : Dev nD) : Qd m c = V m c main_v4 := by funext j; unfold Qd; blk_ext [iblk, idx0]
/-- The body's keys are the whole array the host prepared. -/
theorem Kd_array (c : Dev nD) : Kd m c = V m c main_v6 := by funext j; unfold Kd; blk_ext [iblk, idx1]
/-- The body's values are the whole array the host prepared. -/
theorem Vd_array (c : Dev nD) : Vd m c = V m c main_v8 := by funext j; unfold Vd; blk_ext [iblk, idx2]

/-- What the windows stage, of the arguments. -/
theorem Qd_eq (c : Dev nD) : Qd m c = shapeCast S16x512x64 (mulf (transpose S2x8x512x64 [0, 2, 1, 3] (m ((c : Thread nD τ).loc main_arg0)) transposes_S2x512x8x64_S2x8x512x64_0_2_1_3)
    (broadcastInDim S2x8x512x64 ![] bcast_S_S2x8x512x64 (constant S_ .bf16 0x3E00#16))) shapeCasts_S2x8x512x64_S16x512x64 := by
  rw [Qd_array]
  entry_read
  rfl
/-- The body's keys are the second argument, transposed, with batch and head merged. -/
theorem Kd_eq (c : Dev nD) : Kd m c = shapeCast S16x64x512 (transpose S2x8x64x512 [0, 2, 3, 1] (m ((c : Thread nD τ).loc main_arg1)) transposes_S2x512x8x64_S2x8x64x512_0_2_3_1)
    shapeCasts_S2x8x64x512_S16x64x512 := by
  rw [Kd_array]
  entry_read
  rfl
/-- The body's values are the third argument, transposed, with batch and head merged. -/
theorem Vd_eq (c : Dev nD) : Vd m c = shapeCast S16x64x512 (transpose S2x8x64x512 [0, 2, 3, 1] (m ((c : Thread nD τ).loc main_arg2)) transposes_S2x512x8x64_S2x8x64x512_0_2_3_1)
    shapeCasts_S2x8x64x512_S16x64x512 := by
  rw [Vd_array]
  entry_read
  rfl

/-- An array that is not scoped is among those the host holds. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The run, read: each device's result, its arguments unchanged, every counter at zero. -/
theorem run_result : θ_run defs (onTc (τ := τ) (main (F := F))) ⟨m, fun _ => 0, ρ⟩
    (fun r => (∀ c : Dev nD, r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run _ _ _).mono (fun r h => ⟨fun c =>
    ⟨(h.1 c _ (mem_uc main_v11 rfl)).trans (v11_result m c), (h.1 c _ (mem_uc main_arg0 rfl)).trans (arg0_kept m c),
      (h.1 c _ (mem_uc main_arg1 rfl)).trans (arg1_kept m c), (h.1 c _ (mem_uc main_arg2 rfl)).trans (arg2_kept m c)⟩, h.2⟩) (run m ρ)

end Cert.KernelIdeal.Talk

end
-- ==== Proof.Value.Numbers.lean ====
/-
  The program's constants as extended reals, and the int8 quantiser of one row of 64 numbers: its codes are integers between
  -127 and 127, its step a positive number or infinite, and where the step is infinite every code is zero.
-/
module

public import Idealize.ShloMosaic.PureOps.Ideal
public import Idealize.ShloMosaic.PureOps.Ideal.Laws

@[expose] public section

noncomputable section

namespace Cert.Value

open Idealize.ShloMosaic

/-! ## The constants -/

/-- The reduction's start is minus infinity. -/
theorem bits_ninf : Ideal.ofBits .f32 0xFF800000#32 = ⊥ := by simp [Ideal.ofBits, Ideal.ieee]
/-- The bound of the precondition is plus infinity. -/
theorem bits_pinf : Ideal.ofBits .f32 0x7F800000#32 = ⊤ := by simp [Ideal.ofBits, Ideal.ieee]
/-- The largest code. -/
theorem bits_127 : Ideal.ofBits .f32 0x42FE0000#32 = ((127 : ℝ) : EReal) := by
  simp [Ideal.ofBits, Ideal.ieee, -EReal.coe_mul]; norm_num
/-- The scale of the scores, at f32. -/
theorem bits_eighth : Ideal.ofBits .f32 0x3E000000#32 = ((1 / 8 : ℝ) : EReal) := by
  simp [Ideal.ofBits, Ideal.ieee, -EReal.coe_mul]; norm_num
/-- The scale of the queries, at bf16: the same number. -/
theorem bits_eighth_bf16 : Ideal.ofBits .bf16 0x3E00#16 = ((1 / 8 : ℝ) : EReal) := by
  simp [Ideal.ofBits, Ideal.ieee, -EReal.coe_mul]; norm_num
/-- The least magnitude and the step's factor are positive numbers. -/
theorem bits_least : ∃ r : ℝ, 0 < r ∧ Ideal.ofBits .f32 0x1E3CE508#32 = (r : EReal) := by
  refine ⟨_, ?_, by simp [Ideal.ofBits, Ideal.ieee, -EReal.coe_mul]; rfl⟩
  positivity
/-- So is the step's factor, about 1/127. -/
theorem bits_factor : ∃ r : ℝ, 0 < r ∧ Ideal.ofBits .f32 0x3C010204#32 = (r : EReal) := by
  refine ⟨_, ?_, by simp [Ideal.ofBits, Ideal.ieee, -EReal.coe_mul]; rfl⟩
  positivity

/-- A sum of numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-! ## The quantiser of one row -/

/-- The row's largest magnitude, at least the least. -/
def big (x : Fin 64 → EReal) : EReal :=
  max ((Finset.univ : Finset (Fin 64)).fold max (Ideal.ofBits .f32 0xFF800000#32) fun f => max (x f) (-(x f))) (Ideal.ofBits .f32 0x1E3CE508#32)
/-- A code, rounded and not yet cast. -/
def code (x : Fin 64 → EReal) (f : Fin 64) : EReal :=
  Ideal.liftRound Ideal.roundHalfEven (x f * Ideal.div (Ideal.ofBits .f32 0x42FE0000#32) (big x))
/-- The step between codes. -/
def step (x : Fin 64 → EReal) : EReal := big x * Ideal.ofBits .f32 0x3C010204#32

/-- The largest magnitude is positive. -/
theorem big_pos (x : Fin 64 → EReal) : 0 < big x := by
  obtain ⟨r, h, e⟩ := bits_least
  unfold big
  rw [e]
  exact lt_max_of_lt_right (EReal.coe_pos.mpr h)

/-- No magnitude of the row is above it. -/
theorem abs_le_big (x : Fin 64 → EReal) (f : Fin 64) : max (x f) (-(x f)) ≤ big x :=
  le_max_of_le_left ((Finset.le_fold_max _).mpr (.inr ⟨f, Finset.mem_univ f, le_rfl⟩))

/-- Rounding keeps a number between -127 and 127 there. -/
theorem round_bound {r : ℝ} (h : |r| ≤ 127) : |Ideal.roundHalfEven r| ≤ 127 := by
  obtain ⟨h1, h2⟩ := abs_le.mp h
  have l : (-127 : ℤ) ≤ ⌊r⌋ := Int.le_floor.mpr (by push_cast; exact h1)
  have u : ⌊r⌋ ≤ 127 := Int.floor_le_iff.mpr (by push_cast; linarith)
  have e : ⌊r⌋ = 127 → r - ⌊r⌋ < 1 / 2 := fun e => by rw [e]; push_cast; linarith
  unfold Ideal.roundHalfEven
  dsimp only
  rw [abs_le]
  split_ifs with a b c
  · exact ⟨l, u⟩
  · have : ⌊r⌋ ≠ 127 := fun e' => a (e e')
    omega
  · exact ⟨l, u⟩
  · have : ⌊r⌋ ≠ 127 := fun e' => a (e e')
    omega

/-- The codes are integers between -127 and 127; the step is a number, or infinite and the codes zero. -/
theorem quantised (x : Fin 64 → EReal) : ∃ (z : Fin 64 → ℤ) (t : ℝ), (∀ f, code x f = ((z f : ℝ) : EReal) ∧ |z f| ≤ 127)
    ∧ (step x = (t : EReal) ∨ (step x = ⊤ ∧ ∀ f, z f = 0)) := by
  obtain ⟨u, hu, eu⟩ := bits_factor
  have hp := big_pos x
  have r0 : Ideal.roundHalfEven 0 = 0 := by
    unfold Ideal.roundHalfEven
    norm_num
  rcases eq_or_ne (big x) ⊤ with ht | ht
  · have hd : Ideal.div (Ideal.ofBits .f32 0x42FE0000#32) (big x) = 0 := by
      rw [ht, Ideal.div, if_neg EReal.top_ne_zero, EReal.inv_top, mul_zero]
    refine ⟨fun _ => 0, 0, fun f => ⟨?_, by norm_num⟩, .inr ⟨?_, fun _ => rfl⟩⟩
    · unfold code
      rw [hd, mul_zero]
      show (((Ideal.roundHalfEven 0 : ℤ) : ℝ) : EReal) = _
      rw [r0]
    · unfold step
      rw [ht, eu]
      exact EReal.top_mul_coe_of_pos hu
  · obtain ⟨b, eb⟩ : ∃ b : ℝ, big x = (b : EReal) := ⟨(big x).toReal, (EReal.coe_toReal ht (ne_bot_of_gt hp)).symm⟩
    have hb : 0 < b := by rw [eb] at hp; exact EReal.coe_pos.mp hp
    have hx (f : Fin 64) : ∃ y : ℝ, x f = (y : EReal) ∧ |y| ≤ b := by
      have h := abs_le_big x f
      rw [eb] at h
      obtain ⟨h1, h2⟩ := max_le_iff.mp h
      have n1 : x f ≠ ⊤ := fun e => by rw [e] at h1; exact absurd h1 (not_le.mpr (EReal.coe_lt_top b))
      have n2 : x f ≠ ⊥ := fun e => by rw [e, EReal.neg_bot] at h2; exact absurd h2 (not_le.mpr (EReal.coe_lt_top b))
      refine ⟨(x f).toReal, (EReal.coe_toReal n1 n2).symm, ?_⟩
      rw [← EReal.coe_toReal n1 n2] at h1 h2
      rw [← EReal.coe_neg] at h2
      rw [abs_le]
      have := EReal.coe_le_coe_iff.mp h1
      have := EReal.coe_le_coe_iff.mp h2
      constructor <;> linarith
    choose y hy hyb using hx
    have hc (f : Fin 64) : code x f = ((Ideal.roundHalfEven (y f * (127 / b)) : ℝ) : EReal) := by
      unfold code
      rw [hy, eb, bits_127, Ideal.div_coe hb.ne', ← EReal.coe_mul, ← EReal.coe_mul]
      show (((Ideal.roundHalfEven _ : ℤ) : ℝ) : EReal) = _
      congr 3
      ring
    refine ⟨fun f => Ideal.roundHalfEven (y f * (127 / b)), b * u, fun f => ⟨hc f, round_bound ?_⟩, .inl ?_⟩
    · rw [abs_mul, abs_of_pos (div_pos (by norm_num) hb), ← mul_div_assoc, div_le_iff₀ hb]
      nlinarith [hyb f]
    · unfold step
      rw [eb, eu, ← EReal.coe_mul]

/-- Casting a code to int8 and back leaves it. -/
theorem cast_code (x : Fin 64 → EReal) (f : Fin 64) : (((Ideal.fptosi 8 (code x f)).toInt : ℝ) : EReal) = code x f := by
  obtain ⟨z, t, h, -⟩ := quantised x
  obtain ⟨e, b⟩ := h f
  obtain ⟨b1, b2⟩ := abs_le.mp b
  rw [e]
  congr 2
  unfold Ideal.fptosi
  have : Ideal.toIntClamped (-(2 ^ (8 - 1) : ℕ)) ((2 ^ (8 - 1) : ℕ) - 1) (((z f : ℝ) : ℝ) : EReal) = z f := by
    show max _ (min _ (if (0 : ℝ) ≤ (z f : ℝ) then ⌊(z f : ℝ)⌋ else ⌈(z f : ℝ)⌉)) = z f
    rw [Int.floor_intCast, Int.ceil_intCast, ite_self]
    norm_num
    omega
  rw [this, BitVec.toInt_ofInt, Int.bmod_eq_of_le] <;> norm_num <;> omega

/-- A row's codes and step as numbers, the step zero where it is infinite: what they do in products. -/
theorem quantised_mul (x : Fin 64 → EReal) : ∃ (z : Fin 64 → ℝ) (t : ℝ), (∀ f, code x f = (z f : EReal))
    ∧ (∀ f, code x f * step x = ((z f * t : ℝ) : EReal))
    ∧ ∀ a : Fin 64 → ℝ, (∑ f, (a f : EReal) * code x f) * step x = (((∑ f, a f * z f) * t : ℝ) : EReal) := by
  obtain ⟨z, t, h, ht⟩ := quantised x
  have hs (a : Fin 64 → ℝ) : (∑ f, (a f : EReal) * code x f) = ((∑ f, a f * (z f : ℝ) : ℝ) : EReal) := by
    rw [coe_sum]
    exact Finset.sum_congr rfl fun f _ => by rw [(h f).1, ← EReal.coe_mul]
  rcases ht with ht | ⟨ht, h0⟩
  · refine ⟨fun f => z f, t, fun f => (h f).1, fun f => ?_, fun a => ?_⟩
    · rw [(h f).1, ht, ← EReal.coe_mul]
    · rw [hs, ht, ← EReal.coe_mul]
  · refine ⟨fun f => z f, 0, fun f => (h f).1, fun f => ?_, fun a => ?_⟩
    · rw [(h f).1, h0 f]; simp
    · rw [hs, Finset.sum_eq_zero fun f _ => by rw [h0 f]; simp]; simp

/-! ## The two ways to normalise -/

/-- The largest of finitely many numbers is a number. -/
theorem fold_max_real {n : ℕ} (S : Fin (n + 1) → ℝ) :
    ∃ M : ℝ, ((Finset.univ : Finset (Fin (n + 1))).fold max (Ideal.ofBits .f32 0xFF800000#32) fun k => (S k : EReal)) = (M : EReal) := by
  rw [bits_ninf]
  set M := (Finset.univ : Finset (Fin (n + 1))).fold max (⊥ : EReal) fun k => (S k : EReal) with hM
  have h1 : M ≠ ⊤ := by
    have : M < ⊤ := Finset.fold_max_lt _ |>.mpr ⟨bot_lt_top, fun k _ => EReal.coe_lt_top (S k)⟩
    exact this.ne
  have h2 : M ≠ ⊥ := by
    have : ((S 0 : ℝ) : EReal) ≤ M := (Finset.le_fold_max _).mpr (.inr ⟨0, Finset.mem_univ _, le_rfl⟩)
    exact fun e => by rw [e] at this; exact absurd this (not_le.mpr (EReal.bot_lt_coe (S 0)))
  exact ⟨M.toReal, (EReal.coe_toReal h1 h2).symm⟩

/-- Subtracting the largest score and dividing every weight by the weights' sum gives the same average as dividing once, at the
    end, with nothing subtracted. -/
theorem softmax_average {n : ℕ} (S w : Fin (n + 1) → ℝ) (M : EReal)
    (hM : M = (Finset.univ : Finset (Fin (n + 1))).fold max (Ideal.ofBits .f32 0xFF800000#32) fun k => (S k : EReal)) :
    ∑ k, (w k : EReal) * Ideal.div (Ideal.exp ((S k : EReal) - M)) (∑ j, Ideal.exp ((S j : EReal) - M))
      = Ideal.div ((∑ k, Real.exp (S k) * w k : ℝ) : EReal) ((∑ k, Real.exp (S k) : ℝ) : EReal) := by
  obtain ⟨m, e⟩ := fold_max_real S
  rw [hM, e]
  have he (k : Fin (n + 1)) : Ideal.exp ((S k : EReal) - (m : EReal)) = ((Real.exp (S k - m) : ℝ) : EReal) := by
    rw [← EReal.coe_sub]; rfl
  have hd : (0 : ℝ) < ∑ k, Real.exp (S k) := Finset.sum_pos (fun k _ => Real.exp_pos _) Finset.univ_nonempty
  have hd' : (0 : ℝ) < ∑ k, Real.exp (S k - m) := Finset.sum_pos (fun k _ => Real.exp_pos _) Finset.univ_nonempty
  simp only [he]
  rw [← coe_sum (ι := Fin (n + 1)) Finset.univ, Ideal.div_coe hd.ne', ← EReal.coe_mul]
  simp only [Ideal.div_coe hd'.ne', ← EReal.coe_mul]
  rw [← coe_sum (ι := Fin (n + 1)) Finset.univ]
  congr 1
  have hs : ∑ k, Real.exp (S k - m) = (∑ k, Real.exp (S k)) * Real.exp (-m) := by
    rw [Finset.sum_mul]
    exact Finset.sum_congr rfl fun k _ => by rw [← Real.exp_add]; rfl
  rw [hs]
  generalize ∑ k, Real.exp (S k) = D at hd ⊢
  rw [Finset.sum_mul]
  refine Finset.sum_congr rfl fun k _ => ?_
  rw [sub_eq_add_neg, Real.exp_add]
  have := Real.exp_pos (-m)
  field_simp

end Cert.Value

end
-- ==== Proof.Value.Payloads.lean ====
/-
  The kernel's arithmetic, element by element: the quantiser of a device's keys and values, and what one accumulation adds.
-/
module

public import proofs.«01_k».proof.Proof.Value.Numbers
public import proofs.«01_k».proof.Proof.Gen.KernelIdeal.Skeleton
public import Idealize.ShloMosaic.Lib.Pointwise

@[expose] public section

set_option maxRecDepth 16384

noncomputable section

namespace Cert.KernelIdeal.Talk

open Cert.Value Cert.KernelIdeal Cert.KernelIdeal.Gen Idealize.ShloMosaic

/-- The 64 numbers of a staged key or value. -/
def col (x : Vec Ideal S16x64x512 .bf16) (r : Fin 16) (p : Fin 512) : Fin 64 → EReal := fun f => x (ix3 r f p)

/-- The largest magnitude of a column. -/
theorem pay4_apply (x : Vec Ideal S16x64x512 .bf16) (r : Fin 16) (p : Fin 512) : k0_pay4 x (ix3 r 0 p) = big (col x r p) := by
  unfold big col
  pointwise [k0_pay4, k0_pay3]
  simp only [Ideal.absf_def]
/-- A code, cast. -/
theorem pay5_apply (x : Vec Ideal S16x64x512 .bf16) (r : Fin 16) (f : Fin 64) (p : Fin 512) :
    k0_pay5 x (ix3 r f p) = Ideal.fptosi 8 (code (col x r p) f) := by
  unfold code
  rw [← pay4_apply]
  unfold col
  pointwise [k0_pay5, k0_pay3]
  rfl
/-- Values take the same largest magnitudes as keys, -/
theorem pay11_eq (x : Vec Ideal S16x64x512 .bf16) : k0_pay11 x = k0_pay4 x := rfl
/-- and the same codes. -/
theorem pay12_eq (x : Vec Ideal S16x64x512 .bf16) : k0_pay12 x = k0_pay5 x := rfl

/-- The codes stored: the first eight rows and the last eight. -/
theorem pay7_apply (x : Vec Ideal S16x64x512 .bf16) (r : Fin 8) (f : Fin 64) (p : Fin 512) :
    k0_pay7 (k0_pay6 x) (ix6 0 0 0 r f p) = k0_pay5 x (ix3 ⟨r.val, by omega⟩ f p) := by
  pointwise [k0_pay7, k0_pay6]
/-- The last eight rows of the keys' codes. -/
theorem pay8_apply (x : Vec Ideal S16x64x512 .bf16) (r : Fin 8) (f : Fin 64) (p : Fin 512) :
    k0_pay8 (k0_pay5 x) (ix6 0 0 0 r f p) = k0_pay5 x (ix3 ⟨8 + r.val, by omega⟩ f p) := by
  pointwise [k0_pay8]
/-- The first eight rows of the values' codes. -/
theorem pay13_apply (x : Vec Ideal S16x64x512 .bf16) (r : Fin 8) (f : Fin 64) (p : Fin 512) :
    k0_pay13 x (ix6 0 0 0 r f p) = k0_pay5 x (ix3 ⟨r.val, by omega⟩ f p) := pay7_apply x r f p
/-- The last eight rows of the values' codes. -/
theorem pay15_apply (x : Vec Ideal S16x64x512 .bf16) (r : Fin 8) (f : Fin 64) (p : Fin 512) :
    k0_pay15 (k0_pay14 x) (ix6 0 0 0 r f p) = k0_pay5 x (ix3 ⟨8 + r.val, by omega⟩ f p) := pay8_apply x r f p
/-- A key's step. -/
theorem pay9_apply (x : Vec Ideal S16x64x512 .bf16) (r : Fin 16) (p : Fin 512) :
    k0_pay9 (k0_pay4 x) (ix5 0 0 r 0 p) = step (col x r p) := by
  unfold step
  rw [← pay4_apply]
  pointwise [k0_pay9]
/-- A value's step. -/
theorem pay16_apply (x : Vec Ideal S16x64x512 .bf16) (r : Fin 16) (p : Fin 512) :
    k0_pay16 (k0_pay11 x) (ix5 0 0 r 0 p) = step (col x r p) := pay9_apply x r p

/-- The weight of a key for a query: the exponential of the score. -/
theorem pay18_apply (q : Vec Ideal S4x512x64 .bf16) (k : Vec Ideal S1x1x1x4x64x512 .i8) (sk : Vec Ideal S1x1x4x1x512 .f32) (r : Fin 4) (i p : Fin 512) :
    k0_pay18 q k sk (ix3 r i p) = Ideal.exp ((∑ f : Fin 64, q (ix3 r i f) * (((BitVec.toInt (k (ix6 0 0 0 r f p) : BitVec 8) : ℤ) : ℝ) : EReal)) * sk (ix5 0 0 r 0 p)) := by
  pointwise [k0_pay18]
  rfl
/-- What the denominator becomes: the weights added. -/
theorem pay20_apply (q : Vec Ideal S4x512x64 .bf16) (k : Vec Ideal S1x1x1x4x64x512 .i8) (sk : Vec Ideal S1x1x4x1x512 .f32) (d : Vec Ideal S4x512x1 .f32) (r : Fin 4) (i : Fin 512) :
    k0_pay20 (k0_pay19 q k sk d) (ix3 r i 0) = d (ix3 r i 0) + ∑ p : Fin 512, k0_pay18 q k sk (ix3 r i p) := by
  pointwise [k0_pay20, k0_pay19]
/-- What the numerator becomes: the weights times the values' steps and codes added. -/
theorem pay21_apply (v : Vec Ideal S1x1x1x4x64x512 .i8) (w : FVec Ideal S4x512x512 .f32) (sv : Vec Ideal S1x1x4x1x512 .f32) (a : Vec Ideal S4x512x64 .f32) (r : Fin 4) (i : Fin 512) (f : Fin 64) :
    k0_pay21 (k0_pay17 v) w sv a (ix3 r i f) = a (ix3 r i f) + ∑ p : Fin 512, w (ix3 r i p) * sv (ix5 0 0 r 0 p) * (((BitVec.toInt (v (ix6 0 0 0 r f p) : BitVec 8) : ℤ) : ℝ) : EReal) := by
  pointwise [k0_pay21, k0_pay17]
  rfl
/-- The stored result: one division. -/
theorem pay97_apply (a : Vec Ideal S16x512x64 .f32) (d : Vec Ideal S16x512x1 .f32) (r : Fin 16) (i : Fin 512) (f : Fin 64) :
    k0_pay97 a d (ix3 r i f) = Ideal.div (a (ix3 r i f)) (d (ix3 r i 0)) := by
  pointwise [k0_pay97]

end Cert.KernelIdeal.Talk

end
-- ==== Proof.Value.Accumulated.lean ====
/-
  The accumulators after every slot: for each query the sum over the four devices' keys of the weights, and of the weights times
  the values.
-/
module

public import proofs.«01_k».proof.Proof.Value.Payloads
public import proofs.«01_k».proof.Proof.Ideal.Contents

@[expose] public section

set_option maxRecDepth 16384

noncomputable section

namespace Cert.KernelIdeal.Talk

open Cert.Value Cert.KernelIdeal Cert.KernelIdeal.Gen Idealize.ShloMosaic Idealize.ShloMosaic.TcCoe

/-- A row's half, and its place there. -/
abbrev half (r : Fin 16) : Fin 2 := ⟨r.val / 8, by omega⟩
abbrev within (r : Fin 16) : Fin 8 := ⟨r.val % 8, by omega⟩
/-- Row `r` of group `g`. -/
abbrev grp {g : ℕ} (hg : g < 4) (r : Fin 4) : Fin 16 := ⟨4 * g + r.val, by omega⟩
/-- A code as a number. -/
abbrev int8 (x : BitVec 8) : EReal := ((x.toInt : ℝ) : EReal)

section Sums
variable (KB : Dev nD → Codes Ideal) (SB : Dev nD → Scales Ideal) (Q : Vec Ideal S16x512x64 .bf16)

/-- The weight of device `d`'s key `p` for query `i` of row `r`. -/
def weight (d : Dev nD) (r : Fin 16) (i p : Fin 512) : EReal :=
  Ideal.exp ((∑ f : Fin 64, Q (ix3 r i f) * int8 (KB d (half r) 0 (within r) f p)) * SB d 0 r p)
/-- The sum of device `d`'s weights. -/
def den (d : Dev nD) (r : Fin 16) (i : Fin 512) : EReal := ∑ p : Fin 512, weight KB SB Q d r i p
/-- The sum of its weights times its values. -/
def num (d : Dev nD) (r : Fin 16) (i : Fin 512) (f : Fin 64) : EReal :=
  ∑ p : Fin 512, weight KB SB Q d r i p * SB d 1 r p * int8 (KB d (half r) 1 (within r) f p)

end Sums

/-! ## Where the rectangles' elements are -/

/-- An element of the numerator's rectangle. -/
theorem emb_num {g : ℕ} (hg : g < 4) (r : Fin 4) (i : Fin 512) (f : Fin 64) : (accM.access (rQ hg)).emb (ix3 r i f) = (ix3 (grp hg r) i f : S16x512x64.Idx) := by
  funext a
  fin_cases a
  · exact Fin.ext (by show 4 * g + 1 * r.val = 4 * g + r.val; omega)
  · exact Fin.ext (by show 0 + 1 * i.val = i.val; omega)
  · exact Fin.ext (by show 0 + 1 * f.val = f.val; omega)
/-- An element of the queries' rectangle. -/
theorem emb_q {g : ℕ} (hg : g < 4) (r : Fin 4) (i : Fin 512) (f : Fin 64) : (qM.access (rQ hg)).emb (ix3 r i f) = (ix3 (grp hg r) i f : S16x512x64.Idx) :=
  emb_num hg r i f
/-- An element of the denominator's rectangle. -/
theorem emb_den {g : ℕ} (hg : g < 4) (r : Fin 4) (i : Fin 512) : (denM.access (rD hg)).emb (ix3 r i 0) = (ix3 (grp hg r) i 0 : S16x512x1.Idx) := by
  funext a
  fin_cases a
  · exact Fin.ext (by show 4 * g + 1 * r.val = 4 * g + r.val; omega)
  · exact Fin.ext (by show 0 + 1 * i.val = i.val; omega)
  · exact Fin.ext rfl

/-- An element of the codes' rectangle. -/
theorem emb_codes {s g k : ℕ} (hs : s < 4) (hg : g < 4) (hk : k < 2) (r : Fin 4) (f : Fin 64) (p : Fin 512) :
    (kvM.access (rK hs hg hk)).emb (ix6 0 0 0 r f p) = (ix6 ⟨s, hs⟩ (half (grp hg r)) ⟨k, hk⟩ (within (grp hg r)) f p : S4x2x2x8x64x512.Idx) := by
  funext a
  fin_cases a
  · exact Fin.ext (by show s + 1 * 0 = s; omega)
  · exact Fin.ext (by show g / 2 + 1 * 0 = (4 * g + r.val) / 8; omega)
  · exact Fin.ext (by show k + 1 * 0 = k; omega)
  · exact Fin.ext (by show 4 * (g % 2) + 1 * r.val = (4 * g + r.val) % 8; omega)
  · exact Fin.ext (by show 0 + 1 * f.val = f.val; omega)
  · exact Fin.ext (by show 0 + 1 * p.val = p.val; omega)
/-- An element of the scales' rectangle. -/
theorem emb_scales {s g k : ℕ} (hs : s < 4) (hg : g < 4) (hk : k < 2) (r : Fin 4) (p : Fin 512) :
    (scM.access (rC hs hg hk)).emb (ix5 0 0 r 0 p) = (ix5 ⟨s, hs⟩ ⟨k, hk⟩ (grp hg r) 0 p : S4x2x16x1x512.Idx) := by
  funext a
  fin_cases a
  · exact Fin.ext (by show s + 1 * 0 = s; omega)
  · exact Fin.ext (by show k + 1 * 0 = k; omega)
  · exact Fin.ext (by show 4 * g + 1 * r.val = 4 * g + r.val; omega)
  · exact Fin.ext rfl
  · exact Fin.ext (by show 0 + 1 * p.val = p.val; omega)

variable (KB : Dev nD → Codes Ideal) (SB : Dev nD → Scales Ideal)

/-- A load of codes of slot `s`. -/
theorem read_codes (c : Dev nD) {s g k : ℕ} (hs : s < 4) (hg : g < 4) (hk : k < 2) (r : Fin 4) (f : Fin 64) (p : Fin 512) :
    (kvM.access (rK hs hg hk)).read (Elt Ideal) (KV KB c) (ix6 0 0 0 r f p) = KB (slotOf c s) (half (grp hg r)) ⟨k, hk⟩ (within (grp hg r)) f p := by
  rw [View.read_apply, cast_eq, emb_codes]
  rfl
/-- A load of scales of slot `s`. -/
theorem read_scales (c : Dev nD) {s g k : ℕ} (hs : s < 4) (hg : g < 4) (hk : k < 2) (r : Fin 4) (p : Fin 512) :
    (scM.access (rC hs hg hk)).read (Elt Ideal) (SC SB c) (ix5 0 0 r 0 p) = SB (slotOf c s) ⟨k, hk⟩ (grp hg r) p := by
  rw [View.read_apply, cast_eq, emb_scales]
  rfl

/-! ## One accumulation -/

/-- An element of the numerator. -/
def numAt {c : Dev nD} (st : St Ideal c) (r : Fin 16) (i : Fin 512) (f : Fin 64) : EReal := st.1 (ix3 r i f : S16x512x64.Idx)
/-- An element of the denominator. -/
def denAt {c : Dev nD} (st : St Ideal c) (r : Fin 16) (i : Fin 512) : EReal := st.2 (ix3 r i 0 : S16x512x1.Idx)

variable (c : Dev nD) (Q : Buf (Elt Ideal) ((c : Thread nD τ).loc cc0_stg0_0))

/-- The weights an accumulation computes. -/
theorem weight_read {s g : ℕ} (hs : s < 4) (hg : g < 4) (r : Fin 4) (i p : Fin 512) :
    k0_pay18 ((qM.access (rQ hg)).read (Elt Ideal) Q) ((kvM.access (rK hs hg lt02)).read (Elt Ideal) (KV KB c)) ((scM.access (rC hs hg lt02)).read (Elt Ideal) (SC SB c)) (ix3 r i p)
      = weight KB SB Q (slotOf c s) (grp hg r) i p := by
  rw [pay18_apply, read_scales]
  simp only [read_codes]
  unfold weight
  refine congrArg (fun t : EReal => Ideal.exp (t * _)) (Finset.sum_congr rfl fun f _ => congrArg (fun t : EReal => t * _) ?_)
  rw [View.read_apply, cast_eq, emb_q]

/-- An accumulation adds the slot's sum to the numerator of its rows, -/
theorem num_in {s g : ℕ} (hs : s < 4) (hg : g < 4) (st : St Ideal c) (r : Fin 4) (i : Fin 512) (f : Fin 64) :
    numAt (accStep KB SB c Q hs hg st) (grp hg r) i f = (numAt st (grp hg r) i f + num KB SB Q (slotOf c s) (grp hg r) i f) := by
  unfold accStep numAt
  dsimp only
  rw [← emb_num, View.write_emb_of_mem _ _ (Finset.mem_univ _), cast_eq]
  unfold accA
  rw [pay21_apply]
  simp only [weight_read, read_scales, read_codes]
  rfl
/-- and to the denominator of its rows; -/
theorem den_in {s g : ℕ} (hs : s < 4) (hg : g < 4) (st : St Ideal c) (r : Fin 4) (i : Fin 512) :
    denAt (accStep KB SB c Q hs hg st) (grp hg r) i = (denAt st (grp hg r) i + den KB SB Q (slotOf c s) (grp hg r) i) := by
  unfold accStep denAt
  dsimp only
  rw [← emb_den, View.write_emb_of_mem _ _ (Finset.mem_univ _), cast_eq]
  unfold accD
  rw [pay20_apply]
  simp only [weight_read]
  rfl

/-- it leaves the numerator of the other rows, -/
theorem num_out {s g : ℕ} (hs : s < 4) (hg : g < 4) (st : St Ideal c) (r : Fin 16) (i : Fin 512) (f : Fin 64) (h : r.val / 4 ≠ g) :
    numAt (accStep KB SB c Q hs hg st) r i f = numAt st r i f := by
  unfold accStep numAt
  dsimp only
  refine View.write_of_not_mem _ _ _ fun hm => ?_
  obtain ⟨x, -, e⟩ := Finset.mem_map.mp hm
  have e0 : 4 * g + 1 * (x 0).val = r.val := congrArg (fun j : S16x512x64.Idx => (j 0).val) e
  have : (x 0).val < 4 := (x 0).isLt
  omega
/-- and their denominator. -/
theorem den_out {s g : ℕ} (hs : s < 4) (hg : g < 4) (st : St Ideal c) (r : Fin 16) (i : Fin 512) (h : r.val / 4 ≠ g) :
    denAt (accStep KB SB c Q hs hg st) r i = denAt st r i := by
  unfold accStep denAt
  dsimp only
  refine View.write_of_not_mem _ _ _ fun hm => ?_
  obtain ⟨x, -, e⟩ := Finset.mem_map.mp hm
  have e0 : 4 * g + 1 * (x 0).val = r.val := congrArg (fun j : S16x512x1.Idx => (j 0).val) e
  have : (x 0).val < 4 := (x 0).isLt
  omega

/-- A row is a row of its group. -/
theorem grp_of {g : ℕ} (hg : g < 4) (r : Fin 16) (h : r.val / 4 = g) : r = grp hg ⟨r.val % 4, by omega⟩ :=
  Fin.ext (by show r.val = 4 * g + r.val % 4; omega)

/-- One accumulation at any row of the numerator. -/
theorem num_step (x : Fin 4 × Fin 4) (st : St Ideal c) (r : Fin 16) (i : Fin 512) (f : Fin 64) :
    numAt (accStep KB SB c Q x.1.isLt x.2.isLt st) r i f
      = (if r.val / 4 = x.2.val then (numAt st r i f + num KB SB Q (slotOf c x.1.val) r i f ) else numAt st r i f) := by
  split
  · next h =>
    rw [grp_of x.2.isLt r h]
    exact num_in KB SB c Q x.1.isLt x.2.isLt st _ i f
  · next h => exact num_out KB SB c Q x.1.isLt x.2.isLt st r i f h
/-- One accumulation at any row of the denominator. -/
theorem den_step (x : Fin 4 × Fin 4) (st : St Ideal c) (r : Fin 16) (i : Fin 512) :
    denAt (accStep KB SB c Q x.1.isLt x.2.isLt st) r i
      = (if r.val / 4 = x.2.val then (denAt st r i + den KB SB Q (slotOf c x.1.val) r i ) else denAt st r i) := by
  split
  · next h =>
    rw [grp_of x.2.isLt r h]
    exact den_in KB SB c Q x.1.isLt x.2.isLt st _ i
  · next h => exact den_out KB SB c Q x.1.isLt x.2.isLt st r i h

/-! ## Every accumulation -/

/-- A list of accumulations at one element of the numerator. -/
theorem num_fold (r : Fin 16) (i : Fin 512) (f : Fin 64) (L : List (Fin 4 × Fin 4)) : ∀ st : St Ideal c,
    numAt (L.foldl (fun st x => accStep KB SB c Q x.1.isLt x.2.isLt st) st) r i f
      = L.foldl (fun (a : EReal) x => if r.val / 4 = x.2.val then a + num KB SB Q (slotOf c x.1.val) r i f else a) (numAt st r i f) := by
  induction L with
  | nil => exact fun _ => rfl
  | cons x L ih =>
    intro st
    rw [List.foldl_cons, List.foldl_cons, ih, num_step]
/-- A list of accumulations at one element of the denominator. -/
theorem den_fold (r : Fin 16) (i : Fin 512) (L : List (Fin 4 × Fin 4)) : ∀ st : St Ideal c,
    denAt (L.foldl (fun st x => accStep KB SB c Q x.1.isLt x.2.isLt st) st) r i
      = L.foldl (fun (a : EReal) x => if r.val / 4 = x.2.val then a + den KB SB Q (slotOf c x.1.val) r i else a) (denAt st r i) := by
  induction L with
  | nil => exact fun _ => rfl
  | cons x L ih =>
    intro st
    rw [List.foldl_cons, List.foldl_cons, ih, den_step]

/-- Each group of rows meets every slot once, in order. -/
theorem steps_fold (g : ℕ) (hg : g < 4) (a : Fin 4 → EReal) (z : EReal) :
    steps.foldl (fun (b : EReal) x => if g = x.2.val then b + a x.1 else b) z = z + a 0 + a 1 + a 2 + a 3 := by
  interval_cases g <;> rfl

/-- The slots are the four devices, each once. -/
theorem slots_sum (a : Dev nD → EReal) : 0 + a (slotOf c 0) + a (slotOf c 1) + a (slotOf c 2) + a (slotOf c 3) = ∑ d : Fin 4, a d := by
  have h : ∀ c : Fin 4, (0 : EReal) + a (slotOf c 0) + a (slotOf c 1) + a (slotOf c 2) + a (slotOf c 3) = ∑ d : Fin 4, a d := by
    intro c
    rw [Fin.sum_univ_four]
    fin_cases c
    · show (0 : EReal) + a 0 + a 3 + a 1 + a 2 = _
      rw [zero_add]; ac_rfl
    · show (0 : EReal) + a 1 + a 0 + a 2 + a 3 = _
      rw [zero_add]; ac_rfl
    · show (0 : EReal) + a 2 + a 1 + a 3 + a 0 = _
      rw [zero_add]; ac_rfl
    · show (0 : EReal) + a 3 + a 2 + a 0 + a 1 = _
      rw [zero_add]; ac_rfl
  exact h c

/-- The numerator's first contents. -/
theorem pay1_apply (j : S16x512x64.Idx) : k0_pay1 (F := Ideal) j = (0 : EReal) := by pointwise [k0_pay1]
/-- The denominator's first contents. -/
theorem pay2_apply (j : S16x512x1.Idx) : k0_pay2 (F := Ideal) j = (0 : EReal) := by pointwise [k0_pay2]
/-- The numerator starts at zero. -/
theorem num_start (r : Fin 16) (i : Fin 512) (f : Fin 64) : numAt ((k0_pay1 (F := Ideal), k0_pay2 (F := Ideal)) : St Ideal c) r i f = 0 := by
  unfold numAt
  exact pay1_apply (ix3 r i f)
/-- The denominator starts at zero. -/
theorem den_start (r : Fin 16) (i : Fin 512) : denAt ((k0_pay1 (F := Ideal), k0_pay2 (F := Ideal)) : St Ideal c) r i = 0 := by
  unfold denAt
  exact pay2_apply (ix3 r i 0)

variable (Kd Vd : Dev nD → Vec Ideal S16x64x512 .bf16)

/-- The result: the values' sum over the weights' sum, each over the four devices. -/
theorem out_apply (r : Fin 16) (i : Fin 512) (f : Fin 64) : out Kd Vd c Q (ix3 r i f)
    = Ideal.div (∑ d : Fin 4, num (codes Kd Vd) (scls Kd Vd) Q d r i f) (∑ d : Fin 4, den (codes Kd Vd) (scls Kd Vd) Q d r i) := by
  unfold out final
  rw [pay97_apply]
  show Ideal.div (numAt _ r i f) (denAt _ r i) = _
  rw [num_fold, den_fold]
  have hg : r.val / 4 < 4 := by omega
  rw [steps_fold (r.val / 4) hg (fun s => num (codes Kd Vd) (scls Kd Vd) Q (slotOf c s.val) r i f),
    steps_fold (r.val / 4) hg (fun s => den (codes Kd Vd) (scls Kd Vd) Q (slotOf c s.val) r i)]
  rw [num_start, den_start]
  exact congrArg₂ Ideal.div (slots_sum c fun d => num (codes Kd Vd) (scls Kd Vd) Q d r i f) (slots_sum c fun d => den (codes Kd Vd) (scls Kd Vd) Q d r i)

end Cert.KernelIdeal.Talk

end
-- ==== Proof.Value.Reference.lean ====
/-
  The reference's result, element by element: for a query, the scores of the quantised keys, their softmax, and its average of the
  quantised values.
-/
module

public import proofs.«01_k».proof.Proof.Value.Numbers
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Value

open Cert.Value Cert.ReferenceIdeal Cert.ReferenceIdeal.Gen Idealize.ShloMosaic Idealize.ShloMosaic.TcCoe Idealize.SL.Sem Idealize.ShloMosaic.StableHlo

/-- A key's or a value's 64 numbers. -/
def row (x : Vec Ideal S2x2048x8x64 .bf16) (b : Fin 2) (k : Fin 2048) (h : Fin 8) : Fin 64 → EReal := fun f => x (ix4 b k h f)

/-- The quantised array. -/
def hat (x : Vec Ideal S2x2048x8x64 .bf16) : FVec Ideal S2x2048x8x64 .f32 :=
  mulf (Host.roundeven (mulf (extf .f32 x bitsLt_bf16_f32) (broadcastInDim S2x2048x8x64 ![0, 1, 2, 3] bcast_S2x2048x8x1_S2x2048x8x64_0_1_2_3 (Host.divf (broadcastInDim S2x2048x8x1 ![] bcast_S_S2x2048x8x1 (constant S_ .f32 0x42FE0000#32)) (maximumf (broadcastInDim S2x2048x8x1 ![0, 1, 2] bcast_S2x2048x8_S2x2048x8x1_0_1_2 (Host.reduce FloatOps.maximumf (Host.absf (extf .f32 x bitsLt_bf16_f32)) (constant S_ .f32 0xFF800000#32) reducesTo_S2x2048x8x64_S2x2048x8_d3 h_S_)) (broadcastInDim S2x2048x8x1 ![] bcast_S_S2x2048x8x1 (constant S_ .f32 0x1E3CE508#32))))))) (broadcastInDim S2x2048x8x64 ![0, 1, 2, 3] bcast_S2x2048x8x1_S2x2048x8x64_0_1_2_3 (mulf (maximumf (broadcastInDim S2x2048x8x1 ![0, 1, 2] bcast_S2x2048x8_S2x2048x8x1_0_1_2 (Host.reduce FloatOps.maximumf (Host.absf (extf .f32 x bitsLt_bf16_f32)) (constant S_ .f32 0xFF800000#32) reducesTo_S2x2048x8x64_S2x2048x8_d3 h_S_)) (broadcastInDim S2x2048x8x1 ![] bcast_S_S2x2048x8x1 (constant S_ .f32 0x1E3CE508#32))) (broadcastInDim S2x2048x8x1 ![] bcast_S_S2x2048x8x1 (constant S_ .f32 0x3C010204#32))))

/-- An element quantised is its code times its row's step. -/
theorem hat_apply (x : Vec Ideal S2x2048x8x64 .bf16) (b : Fin 2) (k : Fin 2048) (h : Fin 8) (f : Fin 64) :
    hat x (ix4 b k h f) = code (row x b k h) f * step (row x b k h) := by
  unfold hat code step big row
  pointwise []
  simp only [Ideal.absf_def]

/-- The scores. -/
def score (q k : Vec Ideal S2x2048x8x64 .bf16) : FVec Ideal S2x8x2048x2048 .f32 :=
  mulf (Host.dotGeneral dot_S2x2048x8x64_S2x2048x8x64_S2x8x2048x2048_3_3_1_1_02_02 none (extf .f32 q bitsLt_bf16_f32) (hat k)) (broadcastInDim S2x8x2048x2048 ![] bcast_S_S2x8x2048x2048 (constant S_ .f32 0x3E000000#32))

/-- A score is the query's product with the quantised key, scaled. -/
theorem score_apply (q k : Vec Ideal S2x2048x8x64 .bf16) (b : Fin 2) (h : Fin 8) (i p : Fin 2048) :
    score q k (ix4 b h i p) = (∑ f : Fin 64, q (ix4 b i h f) * hat k (ix4 b p h f)) * Ideal.ofBits .f32 0x3E000000#32 := by
  pointwise [score]

/-- The result from the quantised values and the scores. -/
def average (w : FVec Ideal S2x2048x8x64 .f32) (s : FVec Ideal S2x8x2048x2048 .f32) : FVec Ideal S2x2048x8x64 .f32 :=
  transpose S2x2048x8x64 [0, 3, 1, 2] (Host.dotGeneral dot_S2x2048x8x64_S2x8x2048x2048_S2x8x64x2048_1_3_3_2_02_01 none w
    (Host.divf (Host.exp (subf s (broadcastInDim S2x8x2048x2048 ![0, 1, 2, 3] bcast_S2x8x2048x1_S2x8x2048x2048_0_1_2_3 (broadcastInDim S2x8x2048x1 ![0, 1, 2] bcast_S2x8x2048_S2x8x2048x1_0_1_2 (Host.reduce FloatOps.maximumf s (constant S_ .f32 0xFF800000#32) reducesTo_S2x8x2048x2048_S2x8x2048_d3 h_S_)))))
      (broadcastInDim S2x8x2048x2048 ![0, 1, 2, 3] bcast_S2x8x2048x1_S2x8x2048x2048_0_1_2_3 (broadcastInDim S2x8x2048x1 ![0, 1, 2] bcast_S2x8x2048_S2x8x2048x1_0_1_2
        (Host.reduceAdd (Host.exp (subf s (broadcastInDim S2x8x2048x2048 ![0, 1, 2, 3] bcast_S2x8x2048x1_S2x8x2048x2048_0_1_2_3 (broadcastInDim S2x8x2048x1 ![0, 1, 2] bcast_S2x8x2048_S2x8x2048x1_0_1_2 (Host.reduce FloatOps.maximumf s (constant S_ .f32 0xFF800000#32) reducesTo_S2x8x2048x2048_S2x8x2048_d3 h_S_)))))
          (constant S_ .f32 0x00000000#32) reducesTo_S2x8x2048x2048_S2x8x2048_d3 h_S_))))) transposes_S2x8x64x2048_S2x2048x8x64_0_3_1_2

/-- The reference's result is the average of the quantised values by its scores. -/
theorem res_eq (m : (ℓ : Loc nD τ sig) → Buf (Elt Ideal) ℓ) (c : Dev nD) : res_main_v44 m c
    = average (hat (m ((c.tc : Thread nD τ).loc main_arg2))) (score (m ((c.tc : Thread nD τ).loc main_arg0)) (m ((c.tc : Thread nD τ).loc main_arg1))) := rfl

/-- An element of the average: the softmax weights, the largest score subtracted, against the values. -/
theorem average_apply (w : FVec Ideal S2x2048x8x64 .f32) (s : FVec Ideal S2x8x2048x2048 .f32) (b : Fin 2) (i : Fin 2048) (h : Fin 8) (f : Fin 64) :
    average w s (ix4 b i h f) = ∑ p : Fin 2048, w (ix4 b p h f) * Ideal.div
      (Ideal.exp (s (ix4 b h i p) - (Finset.univ : Finset (Fin 2048)).fold max (Ideal.ofBits .f32 0xFF800000#32) fun l => s (ix4 b h i l)))
      (∑ j : Fin 2048, Ideal.exp (s (ix4 b h i j) - (Finset.univ : Finset (Fin 2048)).fold max (Ideal.ofBits .f32 0xFF800000#32) fun l => s (ix4 b h i l))) := by
  pointwise [average]

end Cert.ReferenceIdeal.Value

end
-- ==== Proof.Value.Agree.lean ====
/-
  One element of the result, both ways, over the extended reals: the average of quantised values that four devices' sums give, one
  division at the end, is the softmax's average over all the keys, where the query is of numbers.
-/
module

public import proofs.«01_k».proof.Proof.Value.Numbers

@[expose] public section

noncomputable section

namespace Cert.Value

open Idealize.ShloMosaic

/-- The place in the whole sequence of key `p` of device `d`. -/
def key (d : Fin 4) (p : Fin 512) : Fin 2048 := ⟨512 * d.val + p.val, by omega⟩

/-- A sum over all the keys, device by device. -/
theorem sum_key (a : Fin 2048 → ℝ) : ∑ d : Fin 4, ∑ p : Fin 512, a (key d p) = ∑ k, a k := by
  rw [← Equiv.sum_comp (finProdFinEquiv (m := 4) (n := 512)) a, Fintype.sum_prod_type]
  refine Finset.sum_congr rfl fun d _ => Finset.sum_congr rfl fun p _ => congrArg a (Fin.ext ?_)
  show 512 * d.val + p.val = p.val + 512 * d.val
  omega

/-- The same of the numbers among the extended reals. -/
theorem sum_key_coe (a : Fin 2048 → ℝ) : ∑ d : Fin 4, ∑ p : Fin 512, (a (key d p) : EReal) = ((∑ k, a k : ℝ) : EReal) := by
  rw [← sum_key, coe_sum]
  exact Finset.sum_congr rfl fun d _ => (coe_sum _ _).symm

/-- The weight of a key of numbers `x` for the query `q`: as the kernel takes it, the query scaled first and the step last. -/
def wt (q : Fin 64 → EReal) (x : Fin 64 → EReal) : EReal :=
  Ideal.exp ((∑ f, q f * Ideal.ofBits .bf16 0x3E00#16 * code x f) * step x)
/-- The score of a key as the reference takes it: the quantised key's product with the query, then scaled. -/
def sco (q : Fin 64 → EReal) (x : Fin 64 → EReal) : EReal :=
  (∑ f, q f * (code x f * step x)) * Ideal.ofBits .f32 0x3E000000#32

/-- The kernel's quotient of sums over the devices is the reference's softmax average, for a query of numbers. -/
theorem agree (q : Fin 64 → ℝ) (x y : Fin 2048 → Fin 64 → EReal) (f : Fin 64) :
    Ideal.div (∑ d : Fin 4, ∑ p : Fin 512, wt (fun e => q e) (x (key d p)) * step (y (key d p)) * code (y (key d p)) f)
        (∑ d : Fin 4, ∑ p : Fin 512, wt (fun e => q e) (x (key d p)))
      = ∑ k, code (y k) f * step (y k) * Ideal.div
          (Ideal.exp (sco (fun e => q e) (x k) - (Finset.univ : Finset (Fin 2048)).fold max (Ideal.ofBits .f32 0xFF800000#32) fun l => sco (fun e => q e) (x l)))
          (∑ j, Ideal.exp (sco (fun e => q e) (x j) - (Finset.univ : Finset (Fin 2048)).fold max (Ideal.ofBits .f32 0xFF800000#32) fun l => sco (fun e => q e) (x l))) := by
  choose zx tx _ ex mx using fun k => quantised_mul (x k)
  choose zy ty _ ey _ using fun k => quantised_mul (y k)
  have hw (k : Fin 2048) : wt (fun e => q e) (x k) = ((Real.exp ((∑ e, q e * (1 / 8) * zx k e) * tx k) : ℝ) : EReal) := by
    unfold wt
    rw [bits_eighth_bf16]
    simp only [← EReal.coe_mul]
    rw [mx k fun e => q e * (1 / 8)]
    rfl
  have hs (k : Fin 2048) : sco (fun e => q e) (x k) = (((∑ e, q e * (1 / 8) * zx k e) * tx k : ℝ) : EReal) := by
    unfold sco
    rw [bits_eighth]
    simp only [ex k, ← EReal.coe_mul]
    rw [← coe_sum, ← EReal.coe_mul]
    congr 1
    rw [Finset.sum_mul, Finset.sum_mul]
    exact Finset.sum_congr rfl fun e _ => by ring
  simp only [hs, hw, mul_assoc, mul_comm (step (y _)), ey, ← EReal.coe_mul]
  rw [sum_key_coe fun k => Real.exp ((∑ e, q e * ((1 / 8) * zx k e)) * tx k) * (zy k f * ty k),
    sum_key_coe fun k => Real.exp ((∑ e, q e * ((1 / 8) * zx k e)) * tx k)]
  exact (softmax_average (n := 2047) (fun k => (∑ e, q e * ((1 / 8) * zx k e)) * tx k) (fun k => zy k f * ty k) _ rfl).symm

end Cert.Value

end
-- ==== Proof.Value.Result.lean ====
/-
  A device's result is its block of the reference's: the arguments are the reference's blocks, the codes and steps those of the
  reference's rows, and the two averages agree.
-/
module

public import proofs.«01_k».proof.Proof.Value.Accumulated
public import proofs.«01_k».proof.Proof.Value.Reference
public import proofs.«01_k».proof.Proof.Value.Agree
public import proofs.«01_k».proof.Proof.Ideal.Final
public import Idealize.ShloMosaic.Lib.Pointwise.IndexBridge
public import Idealize.ShloMosaic.Lib.Layout

@[expose] public section

set_option maxRecDepth 16384

noncomputable section

namespace Cert.KernelIdeal.Talk

open Cert.Value Cert.KernelIdeal Cert.KernelIdeal.Gen Idealize.ShloMosaic Idealize.ShloMosaic.TcCoe

/-! ## The codes and steps by row -/

section Codes
variable (Kd Vd : Dev nD → Vec Ideal S16x64x512 .bf16)

/-- A row is in the first half or the second, at its place there. -/
theorem half_cases (r : Fin 16) : (half r = 0 ∧ ∀ h, (⟨(within r).val, h⟩ : Fin 16) = r) ∨ (half r = 1 ∧ ∀ h, (⟨8 + (within r).val, h⟩ : Fin 16) = r) := by
  rcases Nat.lt_or_ge r.val 8 with h | h
  · exact .inl ⟨Fin.ext (by show r.val / 8 = 0; omega), fun _ => Fin.ext (by show r.val % 8 = r.val; omega)⟩
  · exact .inr ⟨Fin.ext (by show r.val / 8 = 1; omega), fun _ => Fin.ext (by show 8 + r.val % 8 = r.val; omega)⟩

/-- A device's exchanged codes of its keys are the rounded codes. -/
theorem codes_key (d : Dev nD) (r : Fin 16) (f : Fin 64) (p : Fin 512) : int8 (codes Kd Vd d (half r) 0 (within r) f p) = code (col (Kd d) r p) f := by
  rw [← cast_code, ← pay5_apply]
  unfold int8
  congr 3
  rcases half_cases r with ⟨e, h⟩ | ⟨e, h⟩
  · rw [e]
    unfold codes
    rw [← ix6_eq_valueIdx]
    exact (pay7_apply _ _ f p).trans (by rw [h])
  · rw [e]
    unfold codes
    rw [← ix6_eq_valueIdx]
    exact (pay8_apply _ _ f p).trans (by rw [h])
/-- Those of its values likewise. -/
theorem codes_value (d : Dev nD) (r : Fin 16) (f : Fin 64) (p : Fin 512) : int8 (codes Kd Vd d (half r) 1 (within r) f p) = code (col (Vd d) r p) f := by
  rw [← cast_code, ← pay5_apply]
  unfold int8
  congr 3
  rcases half_cases r with ⟨e, h⟩ | ⟨e, h⟩
  · rw [e]
    unfold codes
    rw [← ix6_eq_valueIdx]
    exact (pay13_apply _ _ f p).trans (by rw [h])
  · rw [e]
    unfold codes
    rw [← ix6_eq_valueIdx]
    exact (pay15_apply _ _ f p).trans (by rw [h])
/-- The exchanged scales of its keys are the steps. -/
theorem scls_key (d : Dev nD) (r : Fin 16) (p : Fin 512) : scls Kd Vd d 0 r p = step (col (Kd d) r p) := by
  unfold scls
  rw [← ix5_eq_valueIdx]
  exact pay9_apply _ r p
/-- Those of its values likewise. -/
theorem scls_value (d : Dev nD) (r : Fin 16) (p : Fin 512) : scls Kd Vd d 1 r p = step (col (Vd d) r p) := by
  unfold scls
  rw [← ix5_eq_valueIdx]
  exact pay16_apply _ r p

end Codes

/-! ## The arguments staged -/

section Run
variable (m : (ℓ : Loc nD τ sig) → Buf (Elt Ideal) ℓ)

/-- A device's queries. -/
def queries (d : Dev nD) : S2x512x8x64.Idx → EReal := m ((d : Thread nD τ).loc main_arg0)
/-- A device's keys. -/
def keys (d : Dev nD) : S2x512x8x64.Idx → EReal := m ((d : Thread nD τ).loc main_arg1)
/-- A device's values. -/
def values (d : Dev nD) : S2x512x8x64.Idx → EReal := m ((d : Thread nD τ).loc main_arg2)

/-- The keys the body finds, of the argument. -/
theorem Kd_apply (d : Dev nD) (r : Fin 16) (f : Fin 64) (p : Fin 512) :
    (Kd m d : Vec Ideal S16x64x512 .bf16) (ix3 r f p) = keys m d (ix4 (half r) p (within r) f) := by
  unfold keys
  rw [Kd_eq]
  generalize (m ((d : Thread nD τ).loc main_arg1) : Vec Ideal S2x512x8x64 .bf16) = x
  pointwise []
/-- The values the body finds, of the argument. -/
theorem Vd_apply (d : Dev nD) (r : Fin 16) (f : Fin 64) (p : Fin 512) :
    (Vd m d : Vec Ideal S16x64x512 .bf16) (ix3 r f p) = values m d (ix4 (half r) p (within r) f) := by
  unfold values
  rw [Vd_eq]
  generalize (m ((d : Thread nD τ).loc main_arg2) : Vec Ideal S2x512x8x64 .bf16) = x
  pointwise []
/-- The queries the body finds: the argument's, scaled. -/
theorem Qd_apply (d : Dev nD) (r : Fin 16) (i : Fin 512) (f : Fin 64) :
    (Qd m d : Vec Ideal S16x512x64 .bf16) (ix3 r i f)
      = queries m d (ix4 (half r) i (within r) f) * Ideal.ofBits .bf16 0x3E00#16 := by
  unfold queries
  rw [Qd_eq]
  generalize (m ((d : Thread nD τ).loc main_arg0) : Vec Ideal S2x512x8x64 .bf16) = x
  pointwise []
/-- The result, of what the body stores. -/
theorem result_apply (c : Dev nD) (b : Fin 2) (i : Fin 512) (h : Fin 8) (f : Fin 64) :
    result m c (ix4 b i h f) = (res m c : Vec Ideal S16x512x64 .f32) (ix3 ⟨8 * b.val + h.val, by omega⟩ i f) := by
  unfold result
  generalize (res m c : Vec Ideal S16x512x64 .f32) = x
  pointwise []
  exact congrArg x (congrArg (fun r : Fin 16 => ix3 r i f) (Fin.ext (by show b.val * 8 + h.val = 8 * b.val + h.val; omega)))

/-- Device `d`'s block of an array holds its keys' places. -/
theorem block_key (x : Cert.ReferenceIdeal.S2x2048x8x64.Idx → EReal) (d : Fin 4) (b : Fin 2) (p : Fin 512) (h : Fin 8) (f : Fin 64) :
    (Layout.block ⟨4, ![2, 512, 8, 64]⟩ ⟨4, ![2, 2048, 8, 64]⟩ 1 4 d x : S2x512x8x64.Idx → EReal) (ix4 b p h f) = x (ix4 b (key d p) h f) := by
  refine congrArg x (funext fun a => ?_)
  fin_cases a
  · rfl
  · exact Fin.ext (by show d.val * 512 + p.val = 512 * d.val + p.val; omega)
  · rfl
  · rfl

/-- The device's result, where its queries are numbers and its arguments blocks of the reference's. -/
theorem result_block (q k v : Cert.ReferenceIdeal.S2x2048x8x64.Idx → EReal) (hq : ∀ d, queries m d = Layout.block ⟨4, ![2, 512, 8, 64]⟩ ⟨4, ![2, 2048, 8, 64]⟩ 1 4 d q)
    (hk : ∀ d, keys m d = Layout.block ⟨4, ![2, 512, 8, 64]⟩ ⟨4, ![2, 2048, 8, 64]⟩ 1 4 d k)
    (hv : ∀ d, values m d = Layout.block ⟨4, ![2, 512, 8, 64]⟩ ⟨4, ![2, 2048, 8, 64]⟩ 1 4 d v)
    (real : ∀ d j, ∃ r : ℝ, queries m d j = (r : EReal)) (c : Dev nD) (b : Fin 2) (i : Fin 512) (h : Fin 8) (f : Fin 64) :
    result m c (ix4 b i h f) = Cert.ReferenceIdeal.Value.average (Cert.ReferenceIdeal.Value.hat v) (Cert.ReferenceIdeal.Value.score q k) (ix4 b (key c i) h f) := by
  have e1 : half ⟨8 * b.val + h.val, by omega⟩ = b := Fin.ext (by show (8 * b.val + h.val) / 8 = b.val; omega)
  have e2 : within ⟨8 * b.val + h.val, by omega⟩ = h := Fin.ext (by show (8 * b.val + h.val) % 8 = h.val; omega)
  have ek (d : Dev nD) (p : Fin 512) : col (Kd m d) ⟨8 * b.val + h.val, by omega⟩ p = Cert.ReferenceIdeal.Value.row k b (key d p) h := by
    funext e
    refine (Kd_apply m d _ e p).trans ?_
    rw [e1, e2, hk]
    exact block_key k d b p h e
  have ev (d : Dev nD) (p : Fin 512) : col (Vd m d) ⟨8 * b.val + h.val, by omega⟩ p = Cert.ReferenceIdeal.Value.row v b (key d p) h := by
    funext e
    refine (Vd_apply m d _ e p).trans ?_
    rw [e1, e2, hv]
    exact block_key v d b p h e
  have er (e : Fin 64) : ∃ r : ℝ, q (ix4 b (key c i) h e) = (r : EReal) := by
    rw [← block_key q c b i h e, ← hq]
    exact real c _
  choose u hu using er
  have eq (e : Fin 64) : (Qd m c : Vec Ideal S16x512x64 .bf16) (ix3 ⟨8 * b.val + h.val, by omega⟩ i e) = (u e : EReal) * Ideal.ofBits .bf16 0x3E00#16 := by
    refine (Qd_apply m c _ i e).trans ?_
    rw [e1, e2, hq, block_key, hu]
  rw [result_apply]
  unfold res
  rw [out_apply]
  unfold num den weight
  simp only [codes_key, codes_value, scls_key, scls_value, ek, ev, eq]
  rw [Cert.ReferenceIdeal.Value.average_apply]
  simp only [Cert.ReferenceIdeal.Value.hat_apply, Cert.ReferenceIdeal.Value.score_apply, hu]
  exact agree u (fun l => Cert.ReferenceIdeal.Value.row k b l h) (fun l => Cert.ReferenceIdeal.Value.row v b l h) f

end Run

end Cert.KernelIdeal.Talk

end
-- ==== Proof.lean ====
/-
  The claims assembled: the kernel's run (Proof/Bits, Proof/Ideal), the reference's run, and nothing rewritten between the
  kernel and its ideal reading, and the two values equal where the queries are numbers.
-/
module

public import proofs.«01_k».proof.Defs
public import proofs.«01_k».proof.Proof.Bits.Final
public import proofs.«01_k».proof.Proof.Ideal.Final
public import proofs.«01_k».proof.Proof.Value.Result
public import proofs.«01_k».proof.Proof.Gen.ReferenceIdeal.Run
public import Idealize.ShloMosaic.Lib.Quiescent

@[expose] public section

noncomputable section

namespace Cert.Proof

open Idealize.ShloMosaic Idealize.SL.Sem

/-- The kernel at the machine's words runs, its arguments unchanged and its counters back at zero. -/
theorem frame_kernel : Cert.quiescent_Kernel := fun m ρ _ =>
  (θ_run Cert.Kernel.defs _ _).mono (fun _ h => ⟨fun c => (h.1 c).2, h.2⟩) (Cert.Kernel.Talk.run_result (F := Bits) m ρ)

/-- The kernel over the extended reals runs, its arguments unchanged and its counters back at zero. -/
theorem frame_ideal : Cert.quiescent_KernelIdeal := fun m ρ _ =>
  (θ_run Cert.KernelIdeal.defs _ _).mono (fun _ h => ⟨fun c => (h.1 c).2, h.2⟩) (Cert.KernelIdeal.Talk.run_result (F := Ideal) m ρ)

/-- The reference runs, its arguments unchanged; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the precondition's two printings state of their operations. -/
theorem facts_pre_kernel : Cert.Pre_finite_queries_KernelIdeal.Facts := ⟨by decide, by decide⟩
/-- The same of the reference's printing. -/
theorem facts_pre_reference : Cert.Pre_finite_queries_ReferenceIdeal.Facts := ⟨by decide, by decide⟩

/-- An element that the precondition passes is a number. -/
theorem real_of_lt (x : EReal) (h : Ideal.cmp .olt (max x (-x)) (Ideal.ofBits .f32 0x7F800000#32) = 1#1) : ∃ r : ℝ, x = (r : EReal) := by
  rw [Cert.Value.bits_pinf] at h
  have h' : max x (-x) < ⊤ := by
    by_contra hn
    simp [Ideal.cmp, hn] at h
  obtain ⟨h1, h2⟩ := max_lt_iff.mp h'
  have n : x ≠ ⊥ := fun e => by rw [e, EReal.neg_bot] at h2; exact lt_irrefl _ h2
  exact ⟨x.toReal, (EReal.coe_toReal h1.ne n).symm⟩

/-- Each device's result is its block of the reference's, where the queries are numbers. -/
theorem algebraic : Cert.algebraic_KernelIdeal_ReferenceIdeal_pre_finite_queries_KernelIdeal
    (hKernelIdeal := Cert.KernelIdeal.Gen.facts) (hReferenceIdeal := Cert.ReferenceIdeal.Gen.facts) (hPre_finite_queries_KernelIdeal := facts_pre_kernel) := by
  intro m g m' g' hp ha
  refine ⟨Cert.ReferenceIdeal.Value.res_main_v44 m' 0, (θ_run Cert.KernelIdeal.defs _ _).mono (fun r h c => ⟨(h.1 c).1.trans ?_, (h.1 c).2⟩) (Cert.KernelIdeal.Talk.run_result (F := Ideal) m g),
    (θ_run Cert.ReferenceIdeal.defs _ _).mono (fun r h => h 0) (Cert.ReferenceIdeal.Value.run (F := Ideal) m' g')⟩
  rw [Cert.ReferenceIdeal.Value.res_eq]
  funext j
  obtain ⟨b, i, h, f, rfl⟩ : ∃ (b : Fin 2) (i : Fin 512) (h : Fin 8) (f : Fin 64), j = ix4 b i h f := ⟨j 0, j 1, j 2, j 3, eq_ix4 j⟩
  refine (Cert.KernelIdeal.Talk.result_block m _ _ _ (fun d => (ha d).1) (fun d => (ha d).2.1) (fun d => (ha d).2.2) (fun d j => ?_) c b i h f).trans
    (Cert.KernelIdeal.Talk.block_key _ c b i h f).symm
  exact real_of_lt _ (congrFun (hp d) j)

/-- The certificate. -/
theorem claim : Cert.Claim := ⟨Cert.Kernel.Gen.facts, Cert.KernelIdeal.Gen.facts, Cert.ReferenceIdeal.Gen.facts, facts_pre_kernel, facts_pre_reference,
  frame_kernel, frame_ideal, fun m ρ _ => frame_ideal m ρ trivial, frame_reference, fun m ρ _ => frame_reference m ρ trivial, trivial, algebraic⟩

end Cert.Proof

end
